-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_equal_segments_of_finite_points [hPre_equal_segments_of_finite_points : Cert.Pre_equal_segments_of_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_equal_segments_of_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_equal_segments_of_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_equal_segments_of_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_equal_segments_of_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_equal_segments_of_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_equal_segments_of_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_equal_segments_of_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_equal_segments_of_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_equal_segments_of_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_segments_of_finite_points [hPre_equal_segments_of_finite_points : Cert.Pre_equal_segments_of_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_segments_of_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_equal_segments_of_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_equal_segments_of_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_equal_segments_of_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_equal_segments_of_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_equal_segments_of_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_equal_segments_of_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_equal_segments_of_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_equal_segments_of_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_equal_segments_of_finite_points [hKernelIdeal : Cert.KernelIdeal.Facts] [hPre_equal_segments_of_finite_points : Cert.Pre_equal_segments_of_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_segments_of_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_equal_segments_of_finite_points [hReferenceIdeal : Cert.ReferenceIdeal.Facts] [hPre_equal_segments_of_finite_points : Cert.Pre_equal_segments_of_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_segments_of_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_equal_segments_of_finite_points [hKernelIdeal : Cert.KernelIdeal.Facts] [hReferenceIdeal : Cert.ReferenceIdeal.Facts] [hPre_equal_segments_of_finite_points : Cert.Pre_equal_segments_of_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_segments_of_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_equal_segments_of_finite_points : Cert.Pre_equal_segments_of_finite_points.Facts),
    quiescent_Kernel (hKernel := hKernel)
    ∧ quiescent_KernelIdeal (hKernelIdeal := hKernelIdeal)
    ∧ quiescent_KernelIdeal_pre_equal_segments_of_finite_points (hKernelIdeal := hKernelIdeal) (hPre_equal_segments_of_finite_points := hPre_equal_segments_of_finite_points)
    ∧ quiescent_ReferenceIdeal (hReferenceIdeal := hReferenceIdeal)
    ∧ quiescent_ReferenceIdeal_pre_equal_segments_of_finite_points (hReferenceIdeal := hReferenceIdeal) (hPre_equal_segments_of_finite_points := hPre_equal_segments_of_finite_points)
    ∧ preserves_Kernel_KernelIdeal
    ∧ algebraic_KernelIdeal_ReferenceIdeal_pre_equal_segments_of_finite_points (hKernelIdeal := hKernelIdeal) (hReferenceIdeal := hReferenceIdeal) (hPre_equal_segments_of_finite_points := hPre_equal_segments_of_finite_points)
-- ==== Pre_equal_segments_of_finite_points.lean ====
abbrev S32768x512 : Shape := ⟨2, ![32768, 512]⟩
abbrev S16 : Shape := ⟨1, ![16]⟩
abbrev S512x512 : Shape := ⟨2, ![512, 512]⟩
abbrev S512 : Shape := ⟨1, ![512]⟩
abbrev S1x2 : Shape := ⟨2, ![1, 2]⟩
abbrev S1 : Shape := ⟨1, ![1]⟩
abbrev S64x1024 : Shape := ⟨2, ![64, 1024]⟩
abbrev S64 : Shape := ⟨1, ![64]⟩
abbrev S_ : Shape := ⟨0, ![]⟩

class Facts : Prop where
  bcast_S_S16 : S_.BroadcastsInDim S16 (![] : Fin 0 → Fin S16.rank)
  bcast_S_S32768x512 : S_.BroadcastsInDim S32768x512 (![] : Fin 0 → Fin S32768x512.rank)
  bcast_S_S512x512 : S_.BroadcastsInDim S512x512 (![] : Fin 0 → Fin S512x512.rank)
  bcast_S_S512 : S_.BroadcastsInDim S512 (![] : Fin 0 → Fin S512.rank)

variable [Facts]

def fn_part1 {F : FTy → Type} [FloatOps F] (main_arg5 : FVec F S512 .f32) (main_arg6 : FVec F S512x512 .f32) (main_arg7 : FVec F S512 .f32) (main_arg8 : FVec F S512 .f32) (main_v5 : IVec S16 1) (main_v8 : IVec S32768x512 1) (main_v11 : IVec S512x512 1) (main_v14 : IVec S512 1) (main_v17 : IVec S512 1) : IVec S16 1 × IVec S32768x512 1 × IVec S512x512 1 × IVec S512 1 × IVec S512 1 × IVec S512 1 × IVec S512x512 1 × IVec S512 1 × IVec S512 1 :=
  let main_v18 : FVec F S512 .f32 := Host.absf main_arg5
  let main_cst_4 : FVec F S_ .f32 := constant S_ .f32 0x7F800000#32
  let main_v19 : FVec F S512 .f32 := broadcastInDim S512 ![] bcast_S_S512 main_cst_4
  let main_v20 : IVec S512 1 := cmpf .olt main_v18 main_v19
  let main_v21 : FVec F S512x512 .f32 := Host.absf main_arg6
  let main_cst_5 : FVec F S_ .f32 := constant S_ .f32 0x7F800000#32
  let main_v22 : FVec F S512x512 .f32 := broadcastInDim S512x512 ![] bcast_S_S512x512 main_cst_5
  let main_v23 : IVec S512x512 1 := cmpf .olt main_v21 main_v22
  let main_v24 : FVec F S512 .f32 := Host.absf main_arg7
  let main_cst_6 : FVec F S_ .f32 := constant S_ .f32 0x7F800000#32
  let main_v25 : FVec F S512 .f32 := broadcastInDim S512 ![] bcast_S_S512 main_cst_6
  let main_v26 : IVec S512 1 := cmpf .olt main_v24 main_v25
  let main_v27 : FVec F S512 .f32 := Host.absf main_arg8
  let main_cst_7 : FVec F S_ .f32 := constant S_ .f32 0x7F800000#32
  let main_v28 : FVec F S512 .f32 := broadcastInDim S512 ![] bcast_S_S512 main_cst_7
  let main_v29 : IVec S512 1 := cmpf .olt main_v27 main_v28
  (main_v5, main_v8, main_v11, main_v14, main_v17, main_v20, main_v23, main_v26, main_v29)

def fn {F : FTy → Type} [FloatOps F] (main_arg0 : FVec F S32768x512 .f32) (main_arg1 : IVec S16 32) (main_arg2 : FVec F S512x512 .f32) (main_arg3 : FVec F S512 .f32) (main_arg4 : FVec F S512 .f32) (main_arg5 : FVec F S512 .f32) (main_arg6 : FVec F S512x512 .f32) (main_arg7 : FVec F S512 .f32) (main_arg8 : FVec F S512 .f32) (main_arg9 : FVec F S512 .f32) (main_arg10 : FVec F S1x2 .f32) (main_arg11 : FVec F S1 .f32) (main_arg12 : FVec F S64x1024 .f32) (main_arg13 : FVec F S64 .f32) : IVec S16 1 × IVec S32768x512 1 × IVec S512x512 1 × IVec S512 1 × IVec S512 1 × IVec S512 1 × IVec S512x512 1 × IVec S512 1 × IVec S512 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v0 main_v1
  let main_c_0 : IVec S_ 32 := constantI S_ 32 2048#32
  let main_v3 : IVec S16 32 := broadcastInDim S16 ![] bcast_S_S16 main_c_0
  let main_v4 : IVec S16 32 := muli main_v2 main_v3
  let main_v5 : IVec S16 1 := cmpi .eq main_arg1 main_v4
  let main_v6 : FVec F S32768x512 .f32 := Host.absf main_arg0
  let main_cst : FVec F S_ .f32 := constant S_ .f32 0x7F800000#32
  let main_v7 : FVec F S32768x512 .f32 := broadcastInDim S32768x512 ![] bcast_S_S32768x512 main_cst
  let main_v8 : IVec S32768x512 1 := cmpf .olt main_v6 main_v7
  let main_v9 : FVec F S512x512 .f32 := Host.absf main_arg2
  let main_cst_1 : FVec F S_ .f32 := constant S_ .f32 0x7F800000#32
  let main_v10 : FVec F S512x512 .f32 := broadcastInDim S512x512 ![] bcast_S_S512x512 main_cst_1
  let main_v11 : IVec S512x512 1 := cmpf .olt main_v9 main_v10
  let main_v12 : FVec F S512 .f32 := Host.absf main_arg3
  let main_cst_2 : FVec F S_ .f32 := constant S_ .f32 0x7F800000#32
  let main_v13 : FVec F S512 .f32 := broadcastInDim S512 ![] bcast_S_S512 main_cst_2
  let main_v14 : IVec S512 1 := cmpf .olt main_v12 main_v13
  let main_v15 : FVec F S512 .f32 := Host.absf main_arg4
  let main_cst_3 : FVec F S_ .f32 := constant S_ .f32 0x7F800000#32
  let main_v16 : FVec F S512 .f32 := broadcastInDim S512 ![] bcast_S_S512 main_cst_3
  let main_v17 : IVec S512 1 := cmpf .olt main_v15 main_v16
  fn_part1 (F := F) main_arg5 main_arg6 main_arg7 main_arg8 main_v5 main_v8 main_v11 main_v14 main_v17
-- ==== Kernel.lean ====
abbrev S32768x512 : Shape := ⟨2, ![32768, 512]⟩
abbrev S16 : Shape := ⟨1, ![16]⟩
abbrev S512x512 : Shape := ⟨2, ![512, 512]⟩
abbrev S512 : Shape := ⟨1, ![512]⟩
abbrev S1x2 : Shape := ⟨2, ![1, 2]⟩
abbrev S1 : Shape := ⟨1, ![1]⟩
abbrev S64x1024 : Shape := ⟨2, ![64, 1024]⟩
abbrev S64 : Shape := ⟨1, ![64]⟩
abbrev S1024x64 : Shape := ⟨2, ![1024, 64]⟩
abbrev S2 : Shape := ⟨1, ![2]⟩
abbrev S3 : Shape := ⟨1, ![3]⟩
abbrev S1x3 : Shape := ⟨2, ![1, 3]⟩
abbrev S1x512 : Shape := ⟨2, ![1, 512]⟩
abbrev S1x64 : Shape := ⟨2, ![1, 64]⟩
abbrev S16x64 : Shape := ⟨2, ![16, 64]⟩
abbrev S2048x512 : Shape := ⟨2, ![2048, 512]⟩
abbrev S16x2048x512 : Shape := ⟨3, ![16, 2048, 512]⟩
abbrev S16x1024 : Shape := ⟨2, ![16, 1024]⟩
abbrev S1x2048x512 : Shape := ⟨3, ![1, 2048, 512]⟩
abbrev S1x1 : Shape := ⟨2, ![1, 1]⟩
abbrev S2048 : Shape := ⟨1, ![2048]⟩
abbrev S2048x1 : Shape := ⟨2, ![2048, 1]⟩

abbrev nBuf : Space → Nat
  | .hbm => 28
  | .vmem => 17
  | .smem => 1
  | _ => 0

abbrev bufTy : (tb : Table) → Fin (tcTables nBuf tb) → BufTy
  | .hbm, ⟨0, _⟩ => ⟨S32768x512, .f32⟩
  | .hbm, ⟨1, _⟩ => ⟨S16, .i32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1x2, .f32⟩
  | .hbm, ⟨11, _⟩ => ⟨S1, .f32⟩
  | .hbm, ⟨12, _⟩ => ⟨S64x1024, .f32⟩
  | .hbm, ⟨13, _⟩ => ⟨S64, .f32⟩
  | .hbm, ⟨14, _⟩ => ⟨S512x512, .f32⟩
  | .hbm, ⟨15, _⟩ => ⟨S512x512, .bf16⟩
  | .hbm, ⟨16, _⟩ => ⟨S512x512, .f32⟩
  | .hbm, ⟨17, _⟩ => ⟨S512x512, .bf16⟩
  | .hbm, ⟨18, _⟩ => ⟨S1024x64, .f32⟩
  | .hbm, ⟨19, _⟩ => ⟨S2, .f32⟩
  | .hbm, ⟨20, _⟩ => ⟨S3, .f32⟩
  | .hbm, ⟨21, _⟩ => ⟨S1x3, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x64, .f32⟩
  | .hbm, ⟨27, _⟩ => ⟨S16x64, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x64, .f32⟩
  | .local _ .vmem, ⟨9, _⟩ => ⟨S1x64, .f32⟩
  | .local _ .vmem, ⟨10, _⟩ => ⟨S16x64, .f32⟩
  | .local _ .vmem, ⟨11, _⟩ => ⟨S16x2048x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S16x1024, .f32⟩
  | .local _ .smem, ⟨0, _⟩ => ⟨S1x3, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v35 : Index := Scalar.indexCast arg0
  let c0_19 : Index := 0#32
  let c0_20 : Index := 0#32
  ![v35.toNat, 0, 0]
def k0_cond3 (i : grid0.Coords) : BitVec 1 :=
  let arg0 : BitVec 32 := BitVec.ofNat 32 (i 0).val
  let c16_i32_0 : BitVec 32 := 16#32
  let v3 : BitVec 1 := Scalar.cmpi .sge arg0 c16_i32_0
  let c32_i32 : BitVec 32 := 32#32
  let v4 : BitVec 1 := Scalar.cmpi .slt arg0 c32_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off2 (i : grid0.Coords) : Fin 3 → Nat :=
  let arg0 : BitVec 32 := BitVec.ofNat 32 (i 0).val
  let c16_i32_4 : BitVec 32 := 16#32
  let v11 : BitVec 32 := Scalar.subi arg0 c16_i32_4
  let v30 : Index := Scalar.indexCast v11
  let c0_14 : Index := 0#32
  let c0_15 : Index := 0#32
  ![v30.toNat, 0, 0]
def k0_cond4 (i : grid0.Coords) : BitVec 1 :=
  let arg0 : BitVec 32 := BitVec.ofNat 32 (i 0).val
  let c32_i32_2 : BitVec 32 := 32#32
  let v8 : BitVec 1 := Scalar.cmpi .sge arg0 c32_i32_2
  let v9 : BitVec 32 := Scalar.extui v8
  let c0_i32_3 : BitVec 32 := 0#32
  let v10 : BitVec 1 := Scalar.cmpi .ne v9 c0_i32_3
  v10

def k0_off3 (i : grid0.Coords) : Fin 3 → Nat :=
  let arg0 : BitVec 32 := BitVec.ofNat 32 (i 0).val
  let c32_i32_4 : BitVec 32 := 32#32
  let v11 : BitVec 32 := Scalar.subi arg0 c32_i32_4
  let v30 : Index := Scalar.indexCast v11
  let c0_14 : Index := 0#32
  let c0_15 : Index := 0#32
  ![v30.toNat, 0, 0]
def k0_off4 (i : grid0.Coords) : Fin 2 → Nat :=
  let arg0 : BitVec 32 := BitVec.ofNat 32 (i 0).val
  let c32_i32_4 : BitVec 32 := 32#32
  let v11 : BitVec 32 := Scalar.subi arg0 c32_i32_4
  let v60 : Index := Scalar.indexCast v11
  let c0_25 : Index := 0#32
  ![v60.toNat, 0]
def k0_off5 (i : grid0.Coords) : Fin 2 → Nat :=
  let arg0 : BitVec 32 := BitVec.ofNat 32 (i 0).val
  let c32_i32_4 : BitVec 32 := 32#32
  let v11 : BitVec 32 := Scalar.subi arg0 c32_i32_4
  let v67 : Index := Scalar.indexCast v11
  let c512 : Index := 512#32
  ![v67.toNat, 512]
def k0_cond5 (i : grid0.Coords) : BitVec 1 :=
  let arg0 : BitVec 32 := BitVec.ofNat 32 (i 0).val
  let c32_i32_4 : BitVec 32 := 32#32
  let v11 : BitVec 32 := Scalar.subi arg0 c32_i32_4
  let c15_i32 : BitVec 32 := 15#32
  let v71 : BitVec 1 := Scalar.cmpi .eq v11 c15_i32
  let v72 : BitVec 32 := Scalar.extui v71
  let c0_i32_28 : BitVec 32 := 0#32
  let v73 : BitVec 1 := Scalar.cmpi .ne v72 c0_i32_28
  v73

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S32768x512 : Shape := ⟨2, ![32768, 512]⟩
abbrev S16 : Shape := ⟨1, ![16]⟩
abbrev S512x512 : Shape := ⟨2, ![512, 512]⟩
abbrev S512 : Shape := ⟨1, ![512]⟩
abbrev S1x2 : Shape := ⟨2, ![1, 2]⟩
abbrev S1 : Shape := ⟨1, ![1]⟩
abbrev S64x1024 : Shape := ⟨2, ![64, 1024]⟩
abbrev S64 : Shape := ⟨1, ![64]⟩
abbrev S1x512 : Shape := ⟨2, ![1, 512]⟩
abbrev S_ : Shape := ⟨0, ![]⟩
abbrev S32768 : Shape := ⟨1, ![32768]⟩
abbrev S32768x1 : Shape := ⟨2, ![32768, 1]⟩
abbrev S32768x2 : Shape := ⟨2, ![32768, 2]⟩
abbrev S2x1 : Shape := ⟨2, ![2, 1]⟩
abbrev S1x1 : Shape := ⟨2, ![1, 1]⟩
abbrev S1x16 : Shape := ⟨2, ![1, 16]⟩
abbrev S32768x16 : Shape := ⟨2, ![32768, 16]⟩
abbrev S16x1 : Shape := ⟨2, ![16, 1]⟩
abbrev S1x32768 : Shape := ⟨2, ![1, 32768]⟩
abbrev S16x32768 : Shape := ⟨2, ![16, 32768]⟩
abbrev S16x32768x1 : Shape := ⟨3, ![16, 32768, 1]⟩
abbrev S1x32768x512 : Shape := ⟨3, ![1, 32768, 512]⟩
abbrev S16x32768x512 : Shape := ⟨3, ![16, 32768, 512]⟩
abbrev S16x512 : Shape := ⟨2, ![16, 512]⟩
abbrev S16x1024 : Shape := ⟨2, ![16, 1024]⟩
abbrev S1024x64 : Shape := ⟨2, ![1024, 64]⟩
abbrev S16x64 : Shape := ⟨2, ![16, 64]⟩
abbrev S1x64 : Shape := ⟨2, ![1, 64]⟩

abbrev nBuf : Space → Nat
  | .hbm => 198
  | .vmem => 0
  | .smem => 0
  | _ => 0

abbrev hbmTy0_0 (i : Nat) : BufTy := match i % 128 with
  | 0 => ⟨S32768x512, .f32⟩
  | 1 => ⟨S16, .i32⟩
  | 2 => ⟨S512x512, .f32⟩
  | 3 => ⟨S512, .f32⟩
  | 4 => ⟨S512, .f32⟩
  | 5 => ⟨S512, .f32⟩
  | 6 => ⟨S512x512, .f32⟩
  | 7 => ⟨S512, .f32⟩
  | 8 => ⟨S512, .f32⟩
  | 9 => ⟨S512, .f32⟩
  | 10 => ⟨S1x2, .f32⟩
  | 11 => ⟨S1, .f32⟩
  | 12 => ⟨S64x1024, .f32⟩
  | 13 => ⟨S64, .f32⟩
  | 14 => ⟨S512x512, .f32⟩
  | 15 => ⟨S32768x512, .f32⟩
  | 16 => ⟨S1x512, .f32⟩
  | 17 => ⟨S32768x512, .f32⟩
  | 18 => ⟨S32768x512, .f32⟩
  | 19 => ⟨S_, .f32⟩
  | 20 => ⟨S512, .f32⟩
  | 21 => ⟨S1x512, .f32⟩
  | 22 => ⟨S_, .f32⟩
  | 23 => ⟨S1x512, .f32⟩
  | 24 => ⟨S1x512, .f32⟩
  | 25 => ⟨S_, .i32⟩
  | 26 => ⟨S_, .f32⟩
  | 27 => ⟨S512, .f32⟩
  | 28 => ⟨S1x512, .f32⟩
  | 29 => ⟨S_, .f32⟩
  | 30 => ⟨S1x512, .f32⟩
  | 31 => ⟨S1x512, .f32⟩
  | 32 => ⟨S32768x512, .f32⟩
  | 33 => ⟨S32768x512, .f32⟩
  | 34 => ⟨S32768x512, .f32⟩
  | 35 => ⟨S_, .f32⟩
  | 36 => ⟨S_, .f32⟩
  | 37 => ⟨S_, .f32⟩
  | 38 => ⟨S_, .f32⟩
  | 39 => ⟨S512, .f32⟩
  | 40 => ⟨S1x512, .f32⟩
  | 41 => ⟨S1x512, .f32⟩
  | 42 => ⟨S1x512, .f32⟩
  | 43 => ⟨S_, .f32⟩
  | 44 => ⟨S_, .i1⟩
  | 45 => ⟨S_, .f32⟩
  | 46 => ⟨S_, .f32⟩
  | 47 => ⟨S1x512, .f32⟩
  | 48 => ⟨S1x512, .f32⟩
  | 49 => ⟨S32768x512, .f32⟩
  | 50 => ⟨S32768x512, .f32⟩
  | 51 => ⟨S_, .f32⟩
  | 52 => ⟨S1x512, .f32⟩
  | 53 => ⟨S1x512, .f32⟩
  | 54 => ⟨S1x512, .f32⟩
  | 55 => ⟨S32768x512, .f32⟩
  | 56 => ⟨S32768x512, .f32⟩
  | 57 => ⟨S1x512, .f32⟩
  | 58 => ⟨S32768x512, .f32⟩
  | 59 => ⟨S32768x512, .f32⟩
  | 60 => ⟨S1x512, .f32⟩
  | 61 => ⟨S32768x512, .f32⟩
  | 62 => ⟨S32768x512, .f32⟩
  | 63 => ⟨S_, .f32⟩
  | 64 => ⟨S32768x512, .f32⟩
  | 65 => ⟨S32768x512, .f32⟩
  | 66 => ⟨S512x512, .f32⟩
  | 67 => ⟨S32768x512, .f32⟩
  | 68 => ⟨S1x512, .f32⟩
  | 69 => ⟨S32768x512, .f32⟩
  | 70 => ⟨S32768x512, .f32⟩
  | 71 => ⟨S_, .f32⟩
  | 72 => ⟨S512, .f32⟩
  | 73 => ⟨S1x512, .f32⟩
  | 74 => ⟨S_, .f32⟩
  | 75 => ⟨S1x512, .f32⟩
  | 76 => ⟨S1x512, .f32⟩
  | 77 => ⟨S_, .i32⟩
  | 78 => ⟨S_, .f32⟩
  | 79 => ⟨S512, .f32⟩
  | 80 => ⟨S1x512, .f32⟩
  | 81 => ⟨S_, .f32⟩
  | 82 => ⟨S1x512, .f32⟩
  | 83 => ⟨S1x512, .f32⟩
  | 84 => ⟨S32768x512, .f32⟩
  | 85 => ⟨S32768x512, .f32⟩
  | 86 => ⟨S32768x512, .f32⟩
  | 87 => ⟨S_, .f32⟩
  | 88 => ⟨S_, .f32⟩
  | 89 => ⟨S_, .f32⟩
  | 90 => ⟨S_, .f32⟩
  | 91 => ⟨S512, .f32⟩
  | 92 => ⟨S1x512, .f32⟩
  | 93 => ⟨S1x512, .f32⟩
  | 94 => ⟨S1x512, .f32⟩
  | 95 => ⟨S_, .f32⟩
  | 96 => ⟨S_, .i1⟩
  | 97 => ⟨S_, .f32⟩
  | 98 => ⟨S_, .f32⟩
  | 99 => ⟨S1x512, .f32⟩
  | 100 => ⟨S1x512, .f32⟩
  | 101 => ⟨S32768x512, .f32⟩
  | 102 => ⟨S32768x512, .f32⟩
  | 103 => ⟨S_, .f32⟩
  | 104 => ⟨S1x512, .f32⟩
  | 105 => ⟨S1x512, .f32⟩
  | 106 => ⟨S1x512, .f32⟩
  | 107 => ⟨S32768x512, .f32⟩
  | 108 => ⟨S32768x512, .f32⟩
  | 109 => ⟨S1x512, .f32⟩
  | 110 => ⟨S32768x512, .f32⟩
  | 111 => ⟨S32768x512, .f32⟩
  | 112 => ⟨S1x512, .f32⟩
  | 113 => ⟨S32768x512, .f32⟩
  | 114 => ⟨S32768x512, .f32⟩
  | 115 => ⟨S_, .f32⟩
  | 116 => ⟨S32768x512, .f32⟩
  | 117 => ⟨S32768x512, .f32⟩
  | 118 => ⟨S_, .f32⟩
  | 119 => ⟨S32768, .f32⟩
  | 120 => ⟨S32768x1, .f32⟩
  | 121 => ⟨S_, .f32⟩
  | 122 => ⟨S32768x1, .f32⟩
  | 123 => ⟨S32768x1, .f32⟩
  | 124 => ⟨S_, .f32⟩
  | 125 => ⟨S32768, .f32⟩
  | 126 => ⟨S32768x1, .f32⟩
  | 127 => ⟨S32768x2, .f32⟩
  | _ => ⟨S32768x512, .f32⟩

abbrev hbmTy0_1 (i : Nat) : BufTy := match i % 128 with
  | 0 => ⟨S2x1, .f32⟩
  | 1 => ⟨S32768x1, .f32⟩
  | 2 => ⟨S1x1, .f32⟩
  | 3 => ⟨S32768x1, .f32⟩
  | 4 => ⟨S32768x1, .f32⟩
  | 5 => ⟨S32768x1, .f32⟩
  | 6 => ⟨S32768x1, .f32⟩
  | 7 => ⟨S_, .f32⟩
  | 8 => ⟨S32768x1, .f32⟩
  | 9 => ⟨S32768x1, .f32⟩
  | 10 => ⟨S_, .f32⟩
  | 11 => ⟨S32768x1, .f32⟩
  | 12 => ⟨S32768x1, .f32⟩
  | 13 => ⟨S32768x512, .f32⟩
  | 14 => ⟨S32768x512, .f32⟩
  | 15 => ⟨S1x16, .i32⟩
  | 16 => ⟨S32768, .i32⟩
  | 17 => ⟨S32768x1, .i32⟩
  | 18 => ⟨S32768x16, .i32⟩
  | 19 => ⟨S32768x16, .i32⟩
  | 20 => ⟨S32768x16, .i1⟩
  | 21 => ⟨S32768x16, .i32⟩
  | 22 => ⟨S_, .i32⟩
  | 23 => ⟨S32768, .i32⟩
  | 24 => ⟨S16, .i32⟩
  | 25 => ⟨S16x1, .i32⟩
  | 26 => ⟨S1x32768, .i32⟩
  | 27 => ⟨S16x32768, .i32⟩
  | 28 => ⟨S16x32768, .i32⟩
  | 29 => ⟨S16x32768, .i1⟩
  | 30 => ⟨S16x32768x1, .i1⟩
  | 31 => ⟨S1x32768x512, .f32⟩
  | 32 => ⟨S_, .f32⟩
  | 33 => ⟨S_, .f32⟩
  | 34 => ⟨S16x32768x512, .i1⟩
  | 35 => ⟨S16x32768x512, .f32⟩
  | 36 => ⟨S16x32768x512, .f32⟩
  | 37 => ⟨S16x32768x512, .f32⟩
  | 38 => ⟨S_, .f32⟩
  | 39 => ⟨S16x512, .f32⟩
  | 40 => ⟨S16x32768x1, .i1⟩
  | 41 => ⟨S1x32768x512, .f32⟩
  | 42 => ⟨S_, .f32⟩
  | 43 => ⟨S_, .f32⟩
  | 44 => ⟨S16x32768x512, .i1⟩
  | 45 => ⟨S16x32768x512, .f32⟩
  | 46 => ⟨S16x32768x512, .f32⟩
  | 47 => ⟨S16x32768x512, .f32⟩
  | 48 => ⟨S_, .f32⟩
  | 49 => ⟨S16x512, .f32⟩
  | 50 => ⟨S_, .f32⟩
  | 51 => ⟨S_, .f32⟩
  | 52 => ⟨S16x32768, .f32⟩
  | 53 => ⟨S16x32768, .f32⟩
  | 54 => ⟨S16x32768, .f32⟩
  | 55 => ⟨S16x32768, .f32⟩
  | 56 => ⟨S_, .f32⟩
  | 57 => ⟨S16, .f32⟩
  | 58 => ⟨S16x1, .f32⟩
  | 59 => ⟨S_, .f32⟩
  | 60 => ⟨S16x1, .f32⟩
  | 61 => ⟨S16x1, .f32⟩
  | 62 => ⟨S16x512, .f32⟩
  | 63 => ⟨S16x512, .f32⟩
  | 64 => ⟨S16x1024, .f32⟩
  | 65 => ⟨S1024x64, .f32⟩
  | 66 => ⟨S16x64, .f32⟩
  | 67 => ⟨S1x64, .f32⟩
  | 68 => ⟨S16x64, .f32⟩
  | 69 => ⟨S16x64, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_2 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_3 : Ref sig .tc := ⟨.hbm, 71, rfl⟩
abbrev main_v30 : Ref sig .tc := ⟨.hbm, 72, rfl⟩
abbrev main_v31 : Ref sig .tc := ⟨.hbm, 73, rfl⟩
abbrev main_cst_4 : Ref sig .tc := ⟨.hbm, 74, rfl⟩
abbrev main_v32 : Ref sig .tc := ⟨.hbm, 75, rfl⟩
abbrev main_v33 : Ref sig .tc := ⟨.hbm, 76, rfl⟩
abbrev main_c_5 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_v12 : Ref sig .tc := ⟨.hbm, 94, rfl⟩
abbrev main_call1_cst_3 : Ref sig .tc := ⟨.hbm, 95, rfl⟩
abbrev main_call1_v13 : Ref sig .tc := ⟨.hbm, 96, rfl⟩
abbrev main_call1_cst_4 : Ref sig .tc := ⟨.hbm, 97, rfl⟩
abbrev main_call1_call0_v0 : Ref sig .tc := ⟨.hbm, 98, rfl⟩
abbrev main_call1_call0_v1 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_cst_6 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_cst_7 : Ref sig .tc := ⟨.hbm, 115, rfl⟩
abbrev main_v48 : Ref sig .tc := ⟨.hbm, 116, rfl⟩
abbrev main_v49 : Ref sig .tc := ⟨.hbm, 117, rfl⟩
abbrev main_cst_8 : Ref sig .tc := ⟨.hbm, 118, rfl⟩
abbrev main_v50 : Ref sig .tc := ⟨.hbm, 119, rfl⟩
abbrev main_v51 : Ref sig .tc := ⟨.hbm, 120, rfl⟩
abbrev main_cst_9 : Ref sig .tc := ⟨.hbm, 121, rfl⟩
abbrev main_v52 : Ref sig .tc := ⟨.hbm, 122, rfl⟩
abbrev main_v53 : Ref sig .tc := ⟨.hbm, 123, rfl⟩
abbrev main_cst_10 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_cst_11 : Ref sig .tc := ⟨.hbm, 135, rfl⟩
abbrev main_v64 : Ref sig .tc := ⟨.hbm, 136, rfl⟩
abbrev main_v65 : Ref sig .tc := ⟨.hbm, 137, rfl⟩
abbrev main_cst_12 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_c_13 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_cst_14 : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_call2_v3 : Ref sig .tc := ⟨.hbm, 164, rfl⟩
abbrev main_v86 : Ref sig .tc := ⟨.hbm, 165, rfl⟩
abbrev main_cst_15 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_cst_16 : Ref sig .tc := ⟨.hbm, 170, rfl⟩
abbrev main_call3_v0 : Ref sig .tc := ⟨.hbm, 171, rfl⟩
abbrev main_call3_v1 : Ref sig .tc := ⟨.hbm, 172, rfl⟩
abbrev main_call3_v2 : Ref sig .tc := ⟨.hbm, 173, rfl⟩
abbrev main_call3_v3 : Ref sig .tc := ⟨.hbm, 174, rfl⟩
abbrev main_v90 : Ref sig .tc := ⟨.hbm, 175, rfl⟩
abbrev main_cst_17 : Ref sig .tc := ⟨.hbm, 176, rfl⟩
abbrev main_v91 : Ref sig .tc := ⟨.hbm, 177, rfl⟩
abbrev main_cst_18 : Ref sig .tc := ⟨.hbm, 178, rfl⟩
abbrev main_cst_19 : Ref sig .tc := ⟨.hbm, 179, rfl⟩
abbrev main_call4_v0 : Ref sig .tc := ⟨.hbm, 180, rfl⟩
abbrev main_call4_v1 : Ref sig .tc := ⟨.hbm, 181, rfl⟩
abbrev main_v92 : Ref sig .tc := ⟨.hbm, 182, rfl⟩
abbrev main_v93 : Ref sig .tc := ⟨.hbm, 183, rfl⟩
abbrev main_cst_20 : Ref sig .tc := ⟨.hbm, 184, rfl⟩
abbrev main_v94 : Ref sig .tc := ⟨.hbm, 185, rfl⟩
abbrev main_v95 : Ref sig .tc := ⟨.hbm, 186, rfl⟩
abbrev main_cst_21 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩

abbrev nD : Nat := 1
abbrev τ : Topo := Topo.v7x

variable {F : FTy → Type} [FloatOps F]
-- ==== Proof.KernelIdealBody.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x512 .f32) (harg1 : arg1.IsWhole) (arg2 : Memref sig .tc .vmem S512x512 .bf16) (harg2 : arg2.IsWhole)
  (arg3 : Memref sig .tc .vmem S512x512 .bf16) (harg3 : arg3.IsWhole) (arg4 : Memref sig .tc .vmem S1x512 .f32) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S1x512 .f32) (harg7 : arg7.IsWhole) (arg8 : Memref sig .tc .smem S1x3 .f32) (harg8 : arg8.IsWhole)
  (arg9 : Memref sig .tc .vmem S1024x64 .f32) (harg9 : arg9.IsWhole) (arg10 : Memref sig .tc .vmem S1x64 .f32) (harg10 : arg10.IsWhole)
  (arg11 : Memref sig .tc .vmem S16x64 .f32) (harg11 : arg11.IsWhole) (arg12 : Memref sig .tc .vmem S16x2048x512 .bf16) (harg12 : arg12.IsWhole)
  (arg13 : Memref sig .tc .vmem S1x512 .f32) (harg13 : arg13.IsWhole) (arg14 : Memref sig .tc .vmem S1x512 .f32) (harg14 : arg14.IsWhole)
  (arg15 : Memref sig .tc .vmem S1x512 .f32) (harg15 : arg15.IsWhole) (arg16 : Memref sig .tc .vmem S1x512 .f32) (harg16 : arg16.IsWhole)
  (arg17 : Memref sig .tc .vmem S16x1024 .f32) (harg17 : arg17.IsWhole)

/-- A load of one slice of the scratch reads a window of what the scratch holds. -/
theorem ld_slice (v : View sig .tc .vmem S16x2048x512 .bf16) (f : v.ty.Contents (Elt F)) (off : Fin 3 → ℕ) (inb : ∀ a, off a + S1x2048x512.size a ≤ S16x2048x512.size a) :
    v.readAt (Elt F) (Rect.unit (s := S16x2048x512) off S1x2048x512.size inb).toLoadRect f = VecWindow.window (v.read (Elt F) f) off S1x2048x512.size inb := rfl

/-- The condition of the body's inner branch: the very first point. -/
abbrev first (i : grid0.Coords) : Prop := (Scalar.cmpi .ne (Scalar.extui (Scalar.cmpi .eq (BitVec.ofNat 32 (i 0).val) 0#32)) 0#32) = 1#1

set_option maxHeartbeats 4000000 in
/-- The body at the first point: it clears the four running sums, adds the block's column sums and sums of squares of x = feat W1 to the first two, and writes the block of x into its slice of the scratch. -/
theorem run_first (h1 : k0_cond1 i = 1#1) (h2 : first i) (h3 : ¬ k0_cond3 i = 1#1) (h4 : ¬ k0_cond4 i = 1#1)
    (x : Vec F S2048x512 .f32) (w : Vec F S512x512 .bf16) (xs : Vec F S16x2048x512 .bf16) (sa sb sc sd : Vec F S1x512 .f32)
    (E : Set ℕ) (K : PUnit → sProp 𝕄) :
    iprop(owns (c : Thread nD τ) arg1 fullShare x
        ∗ owns (c : Thread nD τ) arg2 fullShare w
        ∗ owns (c : Thread nD τ) arg12 fullShare xs
        ∗ owns (c : Thread nD τ) arg13 fullShare sa
        ∗ owns (c : Thread nD τ) arg14 fullShare sb
        ∗ owns (c : Thread nD τ) arg15 fullShare sc
        ∗ owns (c : Thread nD τ) arg16 fullShare sd
        ∗ (iprop(owns (c : Thread nD τ) arg1 fullShare x
            ∗ owns (c : Thread nD τ) arg2 fullShare w
            ∗ owns (c : Thread nD τ) arg12 fullShare (VecWindow.put xs (k0_off1 i) S1x2048x512.size (k0_pay8 x w))
            ∗ owns (c : Thread nD τ) arg13 fullShare (k0_pay6 x w k0_pay2)
            ∗ owns (c : Thread nD τ) arg14 fullShare (k0_pay7 x w k0_pay3)
            ∗ owns (c : Thread nD τ) arg15 fullShare k0_pay4
            ∗ owns (c : Thread nD τ) arg16 fullShare k0_pay5) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f1, %hf1, H1⟩, ⟨%f2, %hf2, H2⟩, ⟨%f12, %hf12, H12⟩, ⟨%f13, %hf13, H13⟩, ⟨%f14, %hf14, H14⟩, ⟨%f15, %hf15, H15⟩, ⟨%f16, %hf16, H16⟩, Hk⟩
  obtain rfl := harg1.eq_unread hf1; obtain rfl := harg2.eq_unread hf2; obtain rfl := harg12.eq_unread hf12; obtain rfl := harg13.eq_unread hf13; obtain rfl := harg14.eq_unread hf14; obtain rfl := harg15.eq_unread hf15; obtain rfl := harg16.eq_unread hf16
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H12]
  · iexists _; isplitr
    swap; · iexact H12
    ipureintro
    rw [View.read_writes_cons_put _ _ _ _ _ rfl, View.writes_nil]; rw [show View.readAt (Elt F) arg1.view (Rect.unit (s := S2048x512) ![0, 0] S2048x512.size inb_S2048x512_S2048x512_0_0).toLoadRect (harg1.unread x) = x from by rw [View.readAt_full, harg1.read_unread]]; rw [show View.readAt (Elt F) arg2.view (Rect.unit (s := S512x512) ![0, 0] S512x512.size inb_S512x512_S512x512_0_0).toLoadRect (harg2.unread w) = w from by rw [View.readAt_full, harg2.read_unread]]; rw [harg12.read_unread]
  isplitl [H13]
  · iexists _; isplitr
    swap; · iexact H13
    ipureintro
    rw [View.read_writes_full]; rw [show View.readAt (Elt F) arg1.view (Rect.unit (s := S2048x512) ![0, 0] S2048x512.size inb_S2048x512_S2048x512_0_0).toLoadRect (harg1.unread x) = x from by rw [View.readAt_full, harg1.read_unread]]; rw [show View.readAt (Elt F) arg2.view (Rect.unit (s := S512x512) ![0, 0] S512x512.size inb_S512x512_S512x512_0_0).toLoadRect (harg2.unread w) = w from by rw [View.readAt_full, harg2.read_unread]]; unfold run_first.sl.v19 run_first.sl.H13_1; rw [View.readCov_full]
  isplitl [H14]
  · iexists _; isplitr
    swap; · iexact H14
    ipureintro
    rw [View.read_writes_full]; rw [show View.readAt (Elt F) arg1.view (Rect.unit (s := S2048x512) ![0, 0] S2048x512.size inb_S2048x512_S2048x512_0_0).toLoadRect (harg1.unread x) = x from by rw [View.readAt_full, harg1.read_unread]]; rw [show View.readAt (Elt F) arg2.view (Rect.unit (s := S512x512) ![0, 0] S512x512.size inb_S512x512_S512x512_0_0).toLoadRect (harg2.unread w) = w from by rw [View.readAt_full, harg2.read_unread]]; unfold run_first.sl.v26 run_first.sl.H14_1; rw [View.readCov_full]
  isplitl [H15]
  · iexists _; isplitr
    swap; · iexact H15
    ipureintro
    exact View.read_writes_full _ _ _ _ _
  · iexists _; isplitr
    swap; · iexact H16
    ipureintro
    exact View.read_writes_full _ _ _ _ _

set_option maxHeartbeats 4000000 in
/-- The body at a later point of the first phase: it adds the block's sums and writes the block of x. -/
theorem run_p0 (h1 : k0_cond1 i = 1#1) (h2 : ¬ first i) (h3 : ¬ k0_cond3 i = 1#1) (h4 : ¬ k0_cond4 i = 1#1)
    (x : Vec F S2048x512 .f32) (w : Vec F S512x512 .bf16) (xs : Vec F S16x2048x512 .bf16) (sa sb : Vec F S1x512 .f32)
    (E : Set ℕ) (K : PUnit → sProp 𝕄) :
    iprop(owns (c : Thread nD τ) arg1 fullShare x
        ∗ owns (c : Thread nD τ) arg2 fullShare w
        ∗ owns (c : Thread nD τ) arg12 fullShare xs
        ∗ owns (c : Thread nD τ) arg13 fullShare sa
        ∗ owns (c : Thread nD τ) arg14 fullShare sb
        ∗ (iprop(owns (c : Thread nD τ) arg1 fullShare x
            ∗ owns (c : Thread nD τ) arg2 fullShare w
            ∗ owns (c : Thread nD τ) arg12 fullShare (VecWindow.put xs (k0_off1 i) S1x2048x512.size (k0_pay8 x w))
            ∗ owns (c : Thread nD τ) arg13 fullShare (k0_pay6 x w sa)
            ∗ owns (c : Thread nD τ) arg14 fullShare (k0_pay7 x w sb)) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  unfold owns
  iintro ⟨⟨%f1, %hf1, H1⟩, ⟨%f2, %hf2, H2⟩, ⟨%f12, %hf12, H12⟩, ⟨%f13, %hf13, H13⟩, ⟨%f14, %hf14, H14⟩, Hk⟩
  obtain rfl := harg1.eq_unread hf1; obtain rfl := harg2.eq_unread hf2; obtain rfl := harg12.eq_unread hf12; obtain rfl := harg13.eq_unread hf13; obtain rfl := harg14.eq_unread hf14
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H12]
  · iexists _; isplitr
    swap; · iexact H12
    ipureintro
    rw [View.read_writes_cons_put _ _ _ _ _ rfl, View.writes_nil]; rw [show View.readAt (Elt F) arg1.view (Rect.unit (s := S2048x512) ![0, 0] S2048x512.size inb_S2048x512_S2048x512_0_0).toLoadRect (harg1.unread x) = x from by rw [View.readAt_full, harg1.read_unread]]; rw [show View.readAt (Elt F) arg2.view (Rect.unit (s := S512x512) ![0, 0] S512x512.size inb_S512x512_S512x512_0_0).toLoadRect (harg2.unread w) = w from by rw [View.readAt_full, harg2.read_unread]]; rw [harg12.read_unread]
  isplitl [H13]
  · iexists _; isplitr
    swap; · iexact H13
    ipureintro
    rw [View.read_writes_full]; rw [show View.readAt (Elt F) arg1.view (Rect.unit (s := S2048x512) ![0, 0] S2048x512.size inb_S2048x512_S2048x512_0_0).toLoadRect (harg1.unread x) = x from by rw [View.readAt_full, harg1.read_unread]]; rw [show View.readAt (Elt F) arg2.view (Rect.unit (s := S512x512) ![0, 0] S512x512.size inb_S512x512_S512x512_0_0).toLoadRect (harg2.unread w) = w from by rw [View.readAt_full, harg2.read_unread]]; rw [show View.readAt (Elt F) arg13.view (Rect.unit (s := S1x512) ![0, 0] S1x512.size inb_S1x512_S1x512_0_0).toLoadRect (harg13.unread sa) = sa from by rw [View.readAt_full, harg13.read_unread]]
  · iexists _; isplitr
    swap; · iexact H14
    ipureintro
    rw [View.read_writes_full]; rw [show View.readAt (Elt F) arg1.view (Rect.unit (s := S2048x512) ![0, 0] S2048x512.size inb_S2048x512_S2048x512_0_0).toLoadRect (harg1.unread x) = x from by rw [View.readAt_full, harg1.read_unread]]; rw [show View.readAt (Elt F) arg2.view (Rect.unit (s := S512x512) ![0, 0] S512x512.size inb_S512x512_S512x512_0_0).toLoadRect (harg2.unread w) = w from by rw [View.readAt_full, harg2.read_unread]]; rw [show View.readAt (Elt F) arg14.view (Rect.unit (s := S1x512) ![0, 0] S1x512.size inb_S1x512_S1x512_0_0).toLoadRect (harg14.unread sb) = sb from by rw [View.readAt_full, harg14.read_unread]]

set_option maxHeartbeats 4000000 in
/-- The body at a point of the second phase: it normalizes its slice of x, multiplies by W2, adds the sums of the product and writes the product over the slice. -/
theorem run_p1 (h1 : ¬ k0_cond1 i = 1#1) (h3 : k0_cond3 i = 1#1) (h4 : ¬ k0_cond4 i = 1#1)
    (w : Vec F S512x512 .bf16) (g b : Vec F S1x512 .f32) (xs : Vec F S16x2048x512 .bf16) (sa sb sc sd : Vec F S1x512 .f32)
    (E : Set ℕ) (K : PUnit → sProp 𝕄) :
    iprop(owns (c : Thread nD τ) arg3 fullShare w
        ∗ owns (c : Thread nD τ) arg4 fullShare g
        ∗ owns (c : Thread nD τ) arg5 fullShare b
        ∗ owns (c : Thread nD τ) arg12 fullShare xs
        ∗ owns (c : Thread nD τ) arg13 fullShare sa
        ∗ owns (c : Thread nD τ) arg14 fullShare sb
        ∗ owns (c : Thread nD τ) arg15 fullShare sc
        ∗ owns (c : Thread nD τ) arg16 fullShare sd
        ∗ (iprop(owns (c : Thread nD τ) arg3 fullShare w
            ∗ owns (c : Thread nD τ) arg4 fullShare g
            ∗ owns (c : Thread nD τ) arg5 fullShare b
            ∗ owns (c : Thread nD τ) arg12 fullShare (VecWindow.put xs (k0_off2 i) S1x2048x512.size (k0_pay11 (k0_pay16 sa sb g b (VecWindow.window xs (k0_off2 i) S1x2048x512.size (k0_off2_inb i h3)) w)))
            ∗ owns (c : Thread nD τ) arg13 fullShare sa
            ∗ owns (c : Thread nD τ) arg14 fullShare sb
            ∗ owns (c : Thread nD τ) arg15 fullShare (k0_pay9 (k0_pay17 sa sb g b (VecWindow.window xs (k0_off2 i) S1x2048x512.size (k0_off2_inb i h3)) w sc))
            ∗ owns (c : Thread nD τ) arg16 fullShare (k0_pay10 (k0_pay16 sa sb g b (VecWindow.window xs (k0_off2 i) S1x2048x512.size (k0_off2_inb i h3)) w) sd)) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  simp only [k0_part1_eq_skeleton]
  unfold owns
  iintro ⟨⟨%f3, %hf3, H3⟩, ⟨%f4, %hf4, H4⟩, ⟨%f5, %hf5, H5⟩, ⟨%f12, %hf12, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg12.eq_unread hf12; obtain rfl := harg13.eq_unread hf13; obtain rfl := harg14.eq_unread hf14; obtain rfl := harg15.eq_unread hf15; obtain rfl := harg16.eq_unread hf16
  sl_exec (disch := first | sl_exact h1 | sl_exact h3 | sl_exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H12]
  · iexists _; isplitr
    swap; · iexact H12
    ipureintro
    rw [View.read_writes_cons_put _ _ _ _ _ rfl, View.writes_nil]; unfold run_p1.sl.r; rw [show View.readAt (Elt F) arg13.view (Rect.unit (s := S1x512) ![0, 0] S1x512.size inb_S1x512_S1x512_0_0).toLoadRect (harg13.unread sa) = sa from by rw [View.readAt_full, harg13.read_unread]]; rw [show View.readAt (Elt F) arg14.view (Rect.unit (s := S1x512) ![0, 0] S1x512.size inb_S1x512_S1x512_0_0).toLoadRect (harg14.unread sb) = sb from by rw [View.readAt_full, harg14.read_unread]]; rw [show View.readAt (Elt F) arg4.view (Rect.unit (s := S1x512) ![0, 0] S1x512.size inb_S1x512_S1x512_0_0).toLoadRect (harg4.unread g) = g from by rw [View.readAt_full, harg4.read_unread]]; rw [show View.readAt (Elt F) arg5.view (Rect.unit (s := S1x512) ![0, 0] S1x512.size inb_S1x512_S1x512_0_0).toLoadRect (harg5.unread b) = b from by rw [View.readAt_full, harg5.read_unread]]; rw [show View.readAt (Elt F) arg3.view (Rect.unit (s := S512x512) ![0, 0] S512x512.size inb_S512x512_S512x512_0_0).toLoadRect (harg3.unread w) = w from by rw [View.readAt_full, harg3.read_unread]]; rw [ld_slice, harg12.read_unread]
  isplitl [H13]
  · iexists _; isplitr; · ipureintro; exact harg13.read_unread _
    iexact H13
  isplitl [H14]
  · iexists _; isplitr; · ipureintro; exact harg14.read_unread _
    iexact H14
  isplitl [H15]
  · iexists _; isplitr
    swap; · iexact H15
    ipureintro
    rw [View.read_writes_full]; unfold run_p1.sl.r_1; rw [show View.readAt (Elt F) arg13.view (Rect.unit (s := S1x512) ![0, 0] S1x512.size inb_S1x512_S1x512_0_0).toLoadRect (harg13.unread sa) = sa from by rw [View.readAt_full, harg13.read_unread]]; rw [show View.readAt (Elt F) arg14.view (Rect.unit (s := S1x512) ![0, 0] S1x512.size inb_S1x512_S1x512_0_0).toLoadRect (harg14.unread sb) = sb from by rw [View.readAt_full, harg14.read_unread]]; rw [show View.readAt (Elt F) arg4.view (Rect.unit (s := S1x512) ![0, 0] S1x512.size inb_S1x512_S1x512_0_0).toLoadRect (harg4.unread g) = g from by rw [View.readAt_full, harg4.read_unread]]; rw [show View.readAt (Elt F) arg5.view (Rect.unit (s := S1x512) ![0, 0] S1x512.size inb_S1x512_S1x512_0_0).toLoadRect (harg5.unread b) = b from by rw [View.readAt_full, harg5.read_unread]]; rw [show View.readAt (Elt F) arg3.view (Rect.unit (s := S512x512) ![0, 0] S512x512.size inb_S512x512_S512x512_0_0).toLoadRect (harg3.unread w) = w from by rw [View.readAt_full, harg3.read_unread]]; rw [ld_slice, harg12.read_unread]; rw [show View.readAt (Elt F) arg15.view (Rect.unit (s := S1x512) ![0, 0] S1x512.size inb_S1x512_S1x512_0_0).toLoadRect (harg15.unread sc) = sc from by rw [View.readAt_full, harg15.read_unread]]
  · iexists _; isplitr
    swap; · iexact H16
    ipureintro
    rw [View.read_writes_full]; unfold run_p1.sl.r; rw [show View.readAt (Elt F) arg13.view (Rect.unit (s := S1x512) ![0, 0] S1x512.size inb_S1x512_S1x512_0_0).toLoadRect (harg13.unread sa) = sa from by rw [View.readAt_full, harg13.read_unread]]; rw [show View.readAt (Elt F) arg14.view (Rect.unit (s := S1x512) ![0, 0] S1x512.size inb_S1x512_S1x512_0_0).toLoadRect (harg14.unread sb) = sb from by rw [View.readAt_full, harg14.read_unread]]; rw [show View.readAt (Elt F) arg4.view (Rect.unit (s := S1x512) ![0, 0] S1x512.size inb_S1x512_S1x512_0_0).toLoadRect (harg4.unread g) = g from by rw [View.readAt_full, harg4.read_unread]]; rw [show View.readAt (Elt F) arg5.view (Rect.unit (s := S1x512) ![0, 0] S1x512.size inb_S1x512_S1x512_0_0).toLoadRect (harg5.unread b) = b from by rw [View.readAt_full, harg5.read_unread]]; rw [show View.readAt (Elt F) arg3.view (Rect.unit (s := S512x512) ![0, 0] S512x512.size inb_S512x512_S512x512_0_0).toLoadRect (harg3.unread w) = w from by rw [View.readAt_full, harg3.read_unread]]; rw [ld_slice, harg12.read_unread]; rw [show View.readAt (Elt F) arg16.view (Rect.unit (s := S1x512) ![0, 0] S1x512.size inb_S1x512_S1x512_0_0).toLoadRect (harg16.unread sd) = sd from by rw [View.readAt_full, harg16.read_unread]]

/-- The row of the segment table that a point of the third phase writes, as the kernel computes it. -/
def srow (i : grid0.Coords) : ℕ := (Scalar.indexCast (Scalar.subi (BitVec.ofNat 32 (i 0).val) 32#32)).toNat
instance (i : grid0.Coords) : ClosedOff (k0_off4 i) := ⟨![srow i, 0], rfl⟩
instance (i : grid0.Coords) : ClosedOff (k0_off5 i) := ⟨![srow i, 512], rfl⟩

/-- The place of the k-th of the three scalars of the attention. -/
def wcol (k : Fin 3) : S1x3.Idx := fun | ⟨0, _⟩ => (0 : Fin 1) | ⟨1, _⟩ => k

/-- A load of word 0 of the attention's scalars reads it. -/
theorem ld_word0 (v : View sig .tc .smem S1x3 .f32) (f : v.ty.Contents (Elt F)) (inb : ∀ a, (![0, 0] : Fin 2 → ℕ) a + S1x1.size a ≤ S1x3.size a) (h : 0 < S1x1.numel) :
    v.readAt (Elt F) (Rect.unit (s := S1x3) ![0, 0] S1x1.size inb).toLoadRect f (Shape.Idx.first h) = v.read (Elt F) f (wcol 0) :=
  congrArg (v.read (Elt F) f) (funext fun a => match a with | ⟨0, _⟩ => rfl | ⟨1, _⟩ => rfl)

/-- A load of word 1 of the attention's scalars reads it. -/
theorem ld_word1 (v : View sig .tc .smem S1x3 .f32) (f : v.ty.Contents (Elt F)) (inb : ∀ a, (![0, 1] : Fin 2 → ℕ) a + S1x1.size a ≤ S1x3.size a) (h : 0 < S1x1.numel) :
    v.readAt (Elt F) (Rect.unit (s := S1x3) ![0, 1] S1x1.size inb).toLoadRect f (Shape.Idx.first h) = v.read (Elt F) f (wcol 1) :=
  congrArg (v.read (Elt F) f) (funext fun a => match a with | ⟨0, _⟩ => rfl | ⟨1, _⟩ => rfl)

/-- A load of word 2 of the attention's scalars reads it. -/
theorem ld_word2 (v : View sig .tc .smem S1x3 .f32) (f : v.ty.Contents (Elt F)) (inb : ∀ a, (![0, 2] : Fin 2 → ℕ) a + S1x1.size a ≤ S1x3.size a) (h : 0 < S1x1.numel) :
    v.readAt (Elt F) (Rect.unit (s := S1x3) ![0, 2] S1x1.size inb).toLoadRect f (Shape.Idx.first h) = v.read (Elt F) f (wcol 2) :=
  congrArg (v.read (Elt F) f) (funext fun a => match a with | ⟨0, _⟩ => rfl | ⟨1, _⟩ => rfl)

set_option maxHeartbeats 4000000 in
/-- The body at a point of the third phase but the last: it normalizes its slice, scales the rows by the attention and writes the column maxima and means to its row of the segment table. -/
theorem run_p2 (h1 : ¬ k0_cond1 i = 1#1) (h3 : ¬ k0_cond3 i = 1#1) (h4 : k0_cond4 i = 1#1) (h5 : ¬ k0_cond5 i = 1#1)
    (g b : Vec F S1x512 .f32) (q : Vec F S1x3 .f32) (xs : Vec F S16x2048x512 .bf16) (sc sd : Vec F S1x512 .f32) (seg : Vec F S16x1024 .f32)
    (E : Set ℕ) (K : PUnit → sProp 𝕄) :
    iprop(owns (c : Thread nD τ) arg6 fullShare g
        ∗ owns (c : Thread nD τ) arg7 fullShare b
        ∗ owns (c : Thread nD τ) arg8 fullShare q
        ∗ owns (c : Thread nD τ) arg12 fullShare xs
        ∗ owns (c : Thread nD τ) arg15 fullShare sc
        ∗ owns (c : Thread nD τ) arg16 fullShare sd
        ∗ owns (c : Thread nD τ) arg17 fullShare seg
        ∗ (iprop(owns (c : Thread nD τ) arg6 fullShare g
            ∗ owns (c : Thread nD τ) arg7 fullShare b
            ∗ owns (c : Thread nD τ) arg8 fullShare q
            ∗ owns (c : Thread nD τ) arg12 fullShare xs
            ∗ owns (c : Thread nD τ) arg15 fullShare sc
            ∗ owns (c : Thread nD τ) arg16 fullShare sd
            ∗ owns (c : Thread nD τ) arg17 fullShare (VecWindow.put (VecWindow.put seg (k0_off4 i) S1x512.size (k0_pay13 (k0_pay18 sc sd g b (VecWindow.window xs (k0_off3 i) S1x2048x512.size (k0_off3_inb i h4))) (q (wcol 0)) (q (wcol 1)) (q (wcol 2)) (k0_pay19 sc sd g b (VecWindow.window xs (k0_off3 i) S1x2048x512.size (k0_off3_inb i h4))))) (k0_off5 i) S1x512.size (k0_pay14 (k0_pay18 sc sd g b (VecWindow.window xs (k0_off3 i) S1x2048x512.size (k0_off3_inb i h4))) (q (wcol 0)) (q (wcol 1)) (q (wcol 2)) (k0_pay19 sc sd g b (VecWindow.window xs (k0_off3 i) S1x2048x512.size (k0_off3_inb i h4)))))) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  simp only [k0_part2_eq_skeleton]
  unfold owns
  iintro ⟨⟨%f6, %hf6, H6⟩, ⟨%f7, %hf7, H7⟩, ⟨%f8, %hf8, H8⟩, ⟨%f12, %hf12, H12⟩, ⟨%f15, %hf15, H15⟩, ⟨%f16, %hf16, H16⟩, ⟨%f17, %hf17, H17⟩, Hk⟩
  obtain rfl := harg6.eq_unread hf6; obtain rfl := harg7.eq_unread hf7; obtain rfl := harg8.eq_unread hf8; obtain rfl := harg12.eq_unread hf12; obtain rfl := harg15.eq_unread hf15; obtain rfl := harg16.eq_unread hf16; obtain rfl := harg17.eq_unread hf17
  sl_exec (disch := first | sl_exact h1 | sl_exact h3 | sl_exact h4 | sl_exact h5)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H12]
  · iexists _; isplitr; · ipureintro; exact harg12.read_unread _
    iexact H12
  isplitl [H15]
  · iexists _; isplitr; · ipureintro; exact harg15.read_unread _
    iexact H15
  isplitl [H16]
  · iexists _; isplitr; · ipureintro; exact harg16.read_unread _
    iexact H16
  · iexists _; isplitr
    swap; · iexact H17
    ipureintro
    rw [View.read_writes_cons_put _ _ _ _ _ rfl, View.read_writes_cons_put _ _ _ _ _ rfl, View.writes_nil]; unfold run_p2.sl.r run_p2.sl.r_1 run_p2.sl.r_2 run_p2.sl.r_3 run_p2.sl.r_4; rw [show View.readAt (Elt F) arg15.view (Rect.unit (s := S1x512) ![0, 0] S1x512.size inb_S1x512_S1x512_0_0).toLoadRect (harg15.unread sc) = sc from by rw [View.readAt_full, harg15.read_unread]]; rw [show View.readAt (Elt F) arg16.view (Rect.unit (s := S1x512) ![0, 0] S1x512.size inb_S1x512_S1x512_0_0).toLoadRect (harg16.unread sd) = sd from by rw [View.readAt_full, harg16.read_unread]]; rw [show View.readAt (Elt F) arg6.view (Rect.unit (s := S1x512) ![0, 0] S1x512.size inb_S1x512_S1x512_0_0).toLoadRect (harg6.unread g) = g from by rw [View.readAt_full, harg6.read_unread]]; rw [show View.readAt (Elt F) arg7.view (Rect.unit (s := S1x512) ![0, 0] S1x512.size inb_S1x512_S1x512_0_0).toLoadRect (harg7.unread b) = b from by rw [View.readAt_full, harg7.read_unread]]; rw [ld_slice, ld_word0, ld_word1, ld_word2, harg12.read_unread, harg8.read_unread, harg17.read_unread]

set_option maxHeartbeats 4000000 in
/-- The body at the last point: the third phase's step, then the product of the whole segment table with Wo, plus bo. -/
theorem run_last (h1 : ¬ k0_cond1 i = 1#1) (h3 : ¬ k0_cond3 i = 1#1) (h4 : k0_cond4 i = 1#1) (h5 : k0_cond5 i = 1#1)
    (g b : Vec F S1x512 .f32) (q : Vec F S1x3 .f32) (wo : Vec F S1024x64 .f32) (bo : Vec F S1x64 .f32) (o : Vec F S16x64 .f32) (xs : Vec F S16x2048x512 .bf16) (sc sd : Vec F S1x512 .f32) (seg : Vec F S16x1024 .f32)
    (E : Set ℕ) (K : PUnit → sProp 𝕄) :
    iprop(owns (c : Thread nD τ) arg6 fullShare g
        ∗ owns (c : Thread nD τ) arg7 fullShare b
        ∗ owns (c : Thread nD τ) arg8 fullShare q
        ∗ owns (c : Thread nD τ) arg9 fullShare wo
        ∗ owns (c : Thread nD τ) arg10 fullShare bo
        ∗ owns (c : Thread nD τ) arg11 fullShare o
        ∗ owns (c : Thread nD τ) arg12 fullShare xs
        ∗ owns (c : Thread nD τ) arg15 fullShare sc
        ∗ owns (c : Thread nD τ) arg16 fullShare sd
        ∗ owns (c : Thread nD τ) arg17 fullShare seg
        ∗ (iprop(owns (c : Thread nD τ) arg6 fullShare g
            ∗ owns (c : Thread nD τ) arg7 fullShare b
            ∗ owns (c : Thread nD τ) arg8 fullShare q
            ∗ owns (c : Thread nD τ) arg9 fullShare wo
            ∗ owns (c : Thread nD τ) arg10 fullShare bo
            ∗ owns (c : Thread nD τ) arg11 fullShare (k0_pay15 (VecWindow.put (VecWindow.put seg (k0_off4 i) S1x512.size (k0_pay13 (k0_pay18 sc sd g b (VecWindow.window xs (k0_off3 i) S1x2048x512.size (k0_off3_inb i h4))) (q (wcol 0)) (q (wcol 1)) (q (wcol 2)) (k0_pay19 sc sd g b (VecWindow.window xs (k0_off3 i) S1x2048x512.size (k0_off3_inb i h4))))) (k0_off5 i) S1x512.size (k0_pay14 (k0_pay18 sc sd g b (VecWindow.window xs (k0_off3 i) S1x2048x512.size (k0_off3_inb i h4))) (q (wcol 0)) (q (wcol 1)) (q (wcol 2)) (k0_pay19 sc sd g b (VecWindow.window xs (k0_off3 i) S1x2048x512.size (k0_off3_inb i h4))))) wo bo)
            ∗ owns (c : Thread nD τ) arg12 fullShare xs
            ∗ owns (c : Thread nD τ) arg15 fullShare sc
            ∗ owns (c : Thread nD τ) arg16 fullShare sd
            ∗ owns (c : Thread nD τ) arg17 fullShare (VecWindow.put (VecWindow.put seg (k0_off4 i) S1x512.size (k0_pay13 (k0_pay18 sc sd g b (VecWindow.window xs (k0_off3 i) S1x2048x512.size (k0_off3_inb i h4))) (q (wcol 0)) (q (wcol 1)) (q (wcol 2)) (k0_pay19 sc sd g b (VecWindow.window xs (k0_off3 i) S1x2048x512.size (k0_off3_inb i h4))))) (k0_off5 i) S1x512.size (k0_pay14 (k0_pay18 sc sd g b (VecWindow.window xs (k0_off3 i) S1x2048x512.size (k0_off3_inb i h4))) (q (wcol 0)) (q (wcol 1)) (q (wcol 2)) (k0_pay19 sc sd g b (VecWindow.window xs (k0_off3 i) S1x2048x512.size (k0_off3_inb i h4)))))) -∗ K ⟨⟩))
      ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_eq_skeleton]; unfold cc0__fused_skel
  simp only [k0_part2_eq_skeleton]
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f15, %hf15, H15⟩, ⟨%f16, %hf16, H16⟩, ⟨%f17, %hf17, H17⟩, Hk⟩
  obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15; obtain rfl := harg16.eq_unread hf16; obtain rfl := harg17.eq_unread hf17
  sl_exec (disch := first | sl_exact h1 | sl_exact h3 | sl_exact h4 | sl_exact h5)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    rw [View.read_writes_full]; unfold run_last.sl.v74 run_last.sl.H17_2; rw [show View.readAt (Elt F) arg9.view (Rect.unit (s := S1024x64) ![0, 0] S1024x64.size inb_S1024x64_S1024x64_0_0).toLoadRect (harg9.unread wo) = wo from by rw [View.readAt_full, harg9.read_unread]]; rw [show View.readAt (Elt F) arg10.view (Rect.unit (s := S1x64) ![0, 0] S1x64.size inb_S1x64_S1x64_0_0).toLoadRect (harg10.unread bo) = bo from by rw [View.readAt_full, harg10.read_unread]]; rw [View.readAt_full]; rw [View.read_writes_cons_put _ _ _ _ _ rfl, View.read_writes_cons_put _ _ _ _ _ rfl, View.writes_nil]; unfold run_last.sl.r run_last.sl.r_1 run_last.sl.r_2 run_last.sl.r_3 run_last.sl.r_4; rw [show View.readAt (Elt F) arg15.view (Rect.unit (s := S1x512) ![0, 0] S1x512.size inb_S1x512_S1x512_0_0).toLoadRect (harg15.unread sc) = sc from by rw [View.readAt_full, harg15.read_unread]]; rw [show View.readAt (Elt F) arg16.view (Rect.unit (s := S1x512) ![0, 0] S1x512.size inb_S1x512_S1x512_0_0).toLoadRect (harg16.unread sd) = sd from by rw [View.readAt_full, harg16.read_unread]]; rw [show View.readAt (Elt F) arg6.view (Rect.unit (s := S1x512) ![0, 0] S1x512.size inb_S1x512_S1x512_0_0).toLoadRect (harg6.unread g) = g from by rw [View.readAt_full, harg6.read_unread]]; rw [show View.readAt (Elt F) arg7.view (Rect.unit (s := S1x512) ![0, 0] S1x512.size inb_S1x512_S1x512_0_0).toLoadRect (harg7.unread b) = b from by rw [View.readAt_full, harg7.read_unread]]; rw [ld_slice, ld_word0, ld_word1, ld_word2, harg12.read_unread, harg8.read_unread, harg17.read_unread]
  isplitl [H12]
  · iexists _; isplitr; · ipureintro; exact harg12.read_unread _
    iexact H12
  isplitl [H15]
  · iexists _; isplitr; · ipureintro; exact harg15.read_unread _
    iexact H15
  isplitl [H16]
  · iexists _; isplitr; · ipureintro; exact harg16.read_unread _
    iexact H16
  · iexists _; isplitr
    swap; · iexact H17
    ipureintro
    unfold run_last.sl.H17_2; rw [View.read_writes_cons_put _ _ _ _ _ rfl, View.read_writes_cons_put _ _ _ _ _ rfl, View.writes_nil]; unfold run_last.sl.r run_last.sl.r_1 run_last.sl.r_2 run_last.sl.r_3 run_last.sl.r_4; rw [show View.readAt (Elt F) arg15.view (Rect.unit (s := S1x512) ![0, 0] S1x512.size inb_S1x512_S1x512_0_0).toLoadRect (harg15.unread sc) = sc from by rw [View.readAt_full, harg15.read_unread]]; rw [show View.readAt (Elt F) arg16.view (Rect.unit (s := S1x512) ![0, 0] S1x512.size inb_S1x512_S1x512_0_0).toLoadRect (harg16.unread sd) = sd from by rw [View.readAt_full, harg16.read_unread]]; rw [show View.readAt (Elt F) arg6.view (Rect.unit (s := S1x512) ![0, 0] S1x512.size inb_S1x512_S1x512_0_0).toLoadRect (harg6.unread g) = g from by rw [View.readAt_full, harg6.read_unread]]; rw [show View.readAt (Elt F) arg7.view (Rect.unit (s := S1x512) ![0, 0] S1x512.size inb_S1x512_S1x512_0_0).toLoadRect (harg7.unread b) = b from by rw [View.readAt_full, harg7.read_unread]]; rw [ld_slice, ld_word0, ld_word1, ld_word2, harg12.read_unread, harg8.read_unread, harg17.read_unread]

end Cert.KernelIdeal.Body
-- ==== Proof.KernelIdealSpec.lean ====
module

public import proofs.«01_k».proof.Proof.KernelIdealBody
public import proofs.«01_k».proof.Proof.Gen.KernelIdeal.Skeleton
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- What the kernel is given, block by block: the blocks of rows of `feat`, and the whole of every other operand. -/
structure Ins (F : FTy → Type) where
  x : ℕ → Vec F S2048x512 .f32
  w1 : Vec F S512x512 .bf16
  w2 : Vec F S512x512 .bf16
  g1 : Vec F S1x512 .f32
  b1 : Vec F S1x512 .f32
  g2 : Vec F S1x512 .f32
  b2 : Vec F S1x512 .f32
  q : Vec F S1x3 .f32
  wo : Vec F S1024x64 .f32
  bo : Vec F S1x64 .f32

variable (I : Ins F)

/-- The column sums of x = feat W1 over the first `n` blocks. -/
def S1a : ℕ → Vec F S1x512 .f32
  | 0 => k0_pay2
  | n + 1 => k0_pay6 (I.x n) I.w1 (S1a n)

/-- The column sums of squares of x over the first `n` blocks. -/
def S1b : ℕ → Vec F S1x512 .f32
  | 0 => k0_pay3
  | n + 1 => k0_pay7 (I.x n) I.w1 (S1b n)

/-- Block `j` of x. -/
def X1 (j : ℕ) : Vec F S1x2048x512 .bf16 := k0_pay8 (I.x j) I.w1

/-- Block `j` of the second layer's product, before it is stored. -/
def Z2 (j : ℕ) : Vec F S2048x512 .f32 := k0_pay16 (S1a I 16) (S1b I 16) I.g1 I.b1 (X1 I j) I.w2

/-- Block `j` of the second layer's product. -/
def X2 (j : ℕ) : Vec F S1x2048x512 .bf16 := k0_pay11 (Z2 I j)

/-- The column sums of the second product over the first `n` blocks. -/
def S2a : ℕ → Vec F S1x512 .f32
  | 0 => k0_pay4
  | n + 1 => k0_pay9 (k0_pay17 (S1a I 16) (S1b I 16) I.g1 I.b1 (X1 I n) I.w2 (S2a n))

/-- The column sums of squares of the second product over the first `n` blocks. -/
def S2b : ℕ → Vec F S1x512 .f32
  | 0 => k0_pay5
  | n + 1 => k0_pay10 (Z2 I n) (S2b n)

/-- Row `j` of the segment table, its left half: the column maxima. -/
def Rmax (j : ℕ) : Vec F S1x512 .f32 :=
  k0_pay13 (k0_pay18 (S2a I 16) (S2b I 16) I.g2 I.b2 (X2 I j)) (I.q (wcol 0)) (I.q (wcol 1)) (I.q (wcol 2)) (k0_pay19 (S2a I 16) (S2b I 16) I.g2 I.b2 (X2 I j))

/-- Row `j` of the segment table, its right half: the column means. -/
def Rmean (j : ℕ) : Vec F S1x512 .f32 :=
  k0_pay14 (k0_pay18 (S2a I 16) (S2b I 16) I.g2 I.b2 (X2 I j)) (I.q (wcol 0)) (I.q (wcol 1)) (I.q (wcol 2)) (k0_pay19 (S2a I 16) (S2b I 16) I.g2 I.b2 (X2 I j))

/-- The place of column `k` in a row of 512. -/
def rcol (k : Fin 512) : S1x512.Idx := fun | ⟨0, _⟩ => (0 : Fin 1) | ⟨1, _⟩ => k

/-- The whole segment table. -/
def SEG : Vec F S16x1024 .f32 := fun p =>
  if h : (p 1).val < 512 then Rmax I (p 0).val (rcol ⟨(p 1).val, h⟩)
  else Rmean I (p 0).val (rcol ⟨(p 1).val - 512, by have h2 : (p 1).val < 1024 := (p 1).isLt; omega⟩)

/-- What the kernel writes out. -/
def OUT : Vec F S16x64 .f32 := k0_pay15 (SEG I) I.wo I.bo

/-- A slice of the scratch lies inside it. -/
theorem slice_inb {j : ℕ} (h : j < 16) : ∀ a, (![j, 0, 0] : Fin 3 → ℕ) a + S1x2048x512.size a ≤ S16x2048x512.size a := fun a =>
  match a with
  | ⟨0, _⟩ => by show j + 1 ≤ 16; omega
  | ⟨1, _⟩ => by show 0 + 2048 ≤ 2048; omega
  | ⟨2, _⟩ => by show 0 + 512 ≤ 512; omega

/-- The left half of a row of the segment table lies inside it. -/
theorem left_inb {j : ℕ} (h : j < 16) : ∀ a, (![j, 0] : Fin 2 → ℕ) a + S1x512.size a ≤ S16x1024.size a := fun a =>
  match a with
  | ⟨0, _⟩ => by show j + 1 ≤ 16; omega
  | ⟨1, _⟩ => by show 0 + 512 ≤ 1024; omega

/-- The right half of a row of the segment table lies inside it. -/
theorem right_inb {j : ℕ} (h : j < 16) : ∀ a, (![j, 512] : Fin 2 → ℕ) a + S1x512.size a ≤ S16x1024.size a := fun a =>
  match a with
  | ⟨0, _⟩ => by show j + 1 ≤ 16; omega
  | ⟨1, _⟩ => by show 512 + 512 ≤ 1024; omega

/-- What the scratch buffers hold before point `t`: the running sums of the phases gone by, the slices of the scratch written so far, and the rows of the segment table written so far. Nothing is said of a buffer that no point has written. -/
structure Inv (t : ℕ) (xs : Vec F S16x2048x512 .bf16) (sa sb sc sd : Vec F S1x512 .f32) (seg : Vec F S16x1024 .f32) : Prop where
  a : 0 < t → sa = S1a I (min t 16)
  b : 0 < t → sb = S1b I (min t 16)
  c : 0 < t → sc = S2a I (min (t - 16) 16)
  d : 0 < t → sd = S2b I (min (t - 16) 16)
  s : ∀ j (h : j < 16), j < t → VecWindow.window xs ![j, 0, 0] S1x2048x512.size (slice_inb h) = if j + 16 < t then X2 I j else X1 I j
  l : ∀ j (h : j < 16), j + 32 < t → VecWindow.window seg ![j, 0] S1x512.size (left_inb h) = Rmax I j
  r : ∀ j (h : j < 16), j + 32 < t → VecWindow.window seg ![j, 512] S1x512.size (right_inb h) = Rmean I j

variable {I}
variable {t : ℕ} {xs : Vec F S16x2048x512 .bf16} {sa sb sc sd : Vec F S1x512 .f32} {seg : Vec F S16x1024 .f32}

/-- Slices at different places are apart. -/
theorem slice_apart {j k : ℕ} (h : k < 16) (hne : j ≠ k) (w : Vec F S1x2048x512 .bf16) :
    VecWindow.window (VecWindow.put xs ![j, 0, 0] S1x2048x512.size w) ![k, 0, 0] S1x2048x512.size (slice_inb h)
      = VecWindow.window xs ![k, 0, 0] S1x2048x512.size (slice_inb h) :=
  VecWindow.window_put_of_disjoint xs _ _ _ _ _ w 0 (by
    show k + 1 ≤ j ∨ j + 1 ≤ k; omega)

/-- The scratch after the first point. -/
theorem inv_first (seg : Vec F S16x1024 .f32) : Inv I 1 (VecWindow.put xs ![0, 0, 0] S1x2048x512.size (k0_pay8 (I.x 0) I.w1)) (k0_pay6 (I.x 0) I.w1 k0_pay2) (k0_pay7 (I.x 0) I.w1 k0_pay3) k0_pay4 k0_pay5 seg where
  a _ := rfl
  b _ := rfl
  c _ := rfl
  d _ := rfl
  s j h hj := by
    obtain rfl : j = 0 := by omega
    rw [if_neg (by omega)]
    exact VecWindow.window_put_same xs _ _ _ _
  l j h hj := by omega
  r j h hj := by omega

/-- The scratch after a later point of the first phase. -/
theorem inv_p0 (H : Inv I t xs sa sb sc sd seg) (h0 : 0 < t) (h : t < 16) :
    Inv I (t + 1) (VecWindow.put xs ![t, 0, 0] S1x2048x512.size (k0_pay8 (I.x t) I.w1)) (k0_pay6 (I.x t) I.w1 sa) (k0_pay7 (I.x t) I.w1 sb) sc sd seg where
  a _ := by rw [H.a h0, show min t 16 = t by omega, show min (t + 1) 16 = t + 1 by omega]; rfl
  b _ := by rw [H.b h0, show min t 16 = t by omega, show min (t + 1) 16 = t + 1 by omega]; rfl
  c _ := by rw [H.c h0]; congr 1; omega
  d _ := by rw [H.d h0]; congr 1; omega
  s j hj hjt := by
    rw [if_neg (by omega)]
    by_cases e : j = t
    · subst e; exact VecWindow.window_put_same xs _ _ _ _
    · rw [slice_apart hj (Ne.symm e), H.s j hj (by omega), if_neg (by omega)]
  l j hj hjt := by omega
  r j hj hjt := by omega

/-- The scratch after a point of the second phase. -/
theorem inv_p1 (H : Inv I t xs sa sb sc sd seg) (h0 : 16 ≤ t) (h : t < 32) (hs : t - 16 < 16) :
    Inv I (t + 1)
      (VecWindow.put xs ![t - 16, 0, 0] S1x2048x512.size (k0_pay11 (k0_pay16 sa sb I.g1 I.b1 (VecWindow.window xs ![t - 16, 0, 0] S1x2048x512.size (slice_inb hs)) I.w2)))
      sa sb
      (k0_pay9 (k0_pay17 sa sb I.g1 I.b1 (VecWindow.window xs ![t - 16, 0, 0] S1x2048x512.size (slice_inb hs)) I.w2 sc))
      (k0_pay10 (k0_pay16 sa sb I.g1 I.b1 (VecWindow.window xs ![t - 16, 0, 0] S1x2048x512.size (slice_inb hs)) I.w2) sd) seg := by
  have ea : sa = S1a I 16 := by rw [H.a (by omega), show min t 16 = 16 by omega]
  have eb : sb = S1b I 16 := by rw [H.b (by omega), show min t 16 = 16 by omega]
  have ec : sc = S2a I (t - 16) := by rw [H.c (by omega), show min (t - 16) 16 = t - 16 by omega]
  have ed : sd = S2b I (t - 16) := by rw [H.d (by omega), show min (t - 16) 16 = t - 16 by omega]
  have ew : VecWindow.window xs ![t - 16, 0, 0] S1x2048x512.size (slice_inb hs) = X1 I (t - 16) := by
    rw [H.s (t - 16) hs (by omega), if_neg (by omega)]
  rw [ew, ea, eb, ec, ed]
  exact {
    a := fun _ => by rw [show min (t + 1) 16 = 16 by omega]
    b := fun _ => by rw [show min (t + 1) 16 = 16 by omega]
    c := fun _ => by rw [show min (t + 1 - 16) 16 = (t - 16) + 1 by omega]; rfl
    d := fun _ => by rw [show min (t + 1 - 16) 16 = (t - 16) + 1 by omega]; rfl
    s := fun j hj hjt => by
      by_cases e : j = t - 16
      · subst e; rw [if_pos (by omega)]; exact VecWindow.window_put_same xs _ _ _ _
      · rw [slice_apart hj (Ne.symm e), H.s j hj (by omega)]
        by_cases e2 : j + 16 < t
        · rw [if_pos e2, if_pos (by omega)]
        · rw [if_neg e2, if_neg (by omega)]
    l := fun j hj hjt => by omega
    r := fun j hj hjt => by omega }

/-- The scratch after a point of the third phase. -/
theorem inv_p2 (H : Inv I t xs sa sb sc sd seg) (h0 : 32 ≤ t) (h : t < 48) (hs : t - 32 < 16) :
    Inv I (t + 1) xs sa sb sc sd
      (VecWindow.put (VecWindow.put seg ![t - 32, 0] S1x512.size
        (k0_pay13 (k0_pay18 sc sd I.g2 I.b2 (VecWindow.window xs ![t - 32, 0, 0] S1x2048x512.size (slice_inb hs))) (I.q (wcol 0)) (I.q (wcol 1)) (I.q (wcol 2)) (k0_pay19 sc sd I.g2 I.b2 (VecWindow.window xs ![t - 32, 0, 0] S1x2048x512.size (slice_inb hs)))))
        ![t - 32, 512] S1x512.size
        (k0_pay14 (k0_pay18 sc sd I.g2 I.b2 (VecWindow.window xs ![t - 32, 0, 0] S1x2048x512.size (slice_inb hs))) (I.q (wcol 0)) (I.q (wcol 1)) (I.q (wcol 2)) (k0_pay19 sc sd I.g2 I.b2 (VecWindow.window xs ![t - 32, 0, 0] S1x2048x512.size (slice_inb hs))))) := by
  have ec : sc = S2a I 16 := by rw [H.c (by omega), show min (t - 16) 16 = 16 by omega]
  have ed : sd = S2b I 16 := by rw [H.d (by omega), show min (t - 16) 16 = 16 by omega]
  have ew : VecWindow.window xs ![t - 32, 0, 0] S1x2048x512.size (slice_inb hs) = X2 I (t - 32) := by
    rw [H.s (t - 32) hs (by omega), if_pos (by omega)]
  rw [ew]
  exact {
    a := fun _ => by rw [H.a (by omega), show min (t + 1) 16 = min t 16 by omega]
    b := fun _ => by rw [H.b (by omega), show min (t + 1) 16 = min t 16 by omega]
    c := fun _ => by rw [H.c (by omega), show min (t + 1 - 16) 16 = min (t - 16) 16 by omega]
    d := fun _ => by rw [H.d (by omega), show min (t + 1 - 16) 16 = min (t - 16) 16 by omega]
    s := fun j hj hjt => by
      rw [H.s j hj (by omega)]
      by_cases e2 : j + 16 < t
      · rw [if_pos e2, if_pos (by omega)]
      · omega
    l := fun j hj hjt => by
      by_cases e : j = t - 32
      · subst e
        rw [VecWindow.window_put_of_disjoint _ _ _ _ _ _ _ 1 (by show 0 + 512 ≤ 512 ∨ 512 + 512 ≤ 0; omega), ec, ed]
        exact VecWindow.window_put_same seg _ _ _ _
      · rw [VecWindow.window_put_of_disjoint _ _ _ _ _ _ _ 0 (by show j + 1 ≤ t - 32 ∨ t - 32 + 1 ≤ j; omega),
          VecWindow.window_put_of_disjoint _ _ _ _ _ _ _ 0 (by show j + 1 ≤ t - 32 ∨ t - 32 + 1 ≤ j; omega), H.l j hj (by omega)]
    r := fun j hj hjt => by
      by_cases e : j = t - 32
      · subst e
        rw [ec, ed]
        exact VecWindow.window_put_same _ _ _ _ _
      · rw [VecWindow.window_put_of_disjoint _ _ _ _ _ _ _ 0 (by show j + 1 ≤ t - 32 ∨ t - 32 + 1 ≤ j; omega),
          VecWindow.window_put_of_disjoint _ _ _ _ _ _ _ 0 (by show j + 1 ≤ t - 32 ∨ t - 32 + 1 ≤ j; omega), H.r j hj (by omega)] }

/-- After the last point the segment table is whole. -/
theorem seg_whole (H : Inv I 48 xs sa sb sc sd seg) : seg = SEG I := by
  funext p
  have h0 : (p 0).val < 16 := (p 0).isLt
  have h1 : (p 1).val < 1024 := (p 1).isLt
  unfold SEG
  by_cases h : (p 1).val < 512
  · rw [dif_pos h, ← H.l (p 0).val h0 (by omega)]
    refine congrArg seg (funext fun a => Fin.ext ?_)
    match a with
    | ⟨0, _⟩ => show (p 0).val = (p 0).val + 1 * 0; omega
    | ⟨1, _⟩ => show (p 1).val = 0 + 1 * (p 1).val; omega
  · rw [dif_neg h, ← H.r (p 0).val h0 (by omega)]
    refine congrArg seg (funext fun a => Fin.ext ?_)
    match a with
    | ⟨0, _⟩ => show (p 0).val = (p 0).val + 1 * 0; omega
    | ⟨1, _⟩ => show (p 1).val = 512 + 1 * ((p 1).val - 512); omega

end Cert.KernelIdeal.Body
-- ==== Proof.KernelIdealFrame.lean ====
module

public import proofs.«01_k».proof.Proof.KernelIdealSpec
public import proofs.«01_k».proof.Proof.Gen.KernelIdeal.Skeleton
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions and offsets at each point -/

/-- The first phase is the points below 16. -/
theorem at_c1 : ∀ t : Fin cfg0.N, k0_cond1 (grid0.coords t) = 1#1 ↔ t.val < 16 :=
  (by decide +kernel : ∀ t : Fin grid0.N, k0_cond1 (grid0.coords t) = 1#1 ↔ t.val < 16)
/-- The inner branch of the first phase is taken at point 0 only. -/
theorem at_first : ∀ t : Fin cfg0.N, first (grid0.coords t) ↔ t.val = 0 :=
  (by decide +kernel : ∀ t : Fin grid0.N, first (grid0.coords t) ↔ t.val = 0)
/-- The second phase is the points from 16 to 31. -/
theorem at_c3 : ∀ t : Fin cfg0.N, k0_cond3 (grid0.coords t) = 1#1 ↔ 16 ≤ t.val ∧ t.val < 32 :=
  (by decide +kernel : ∀ t : Fin grid0.N, k0_cond3 (grid0.coords t) = 1#1 ↔ 16 ≤ t.val ∧ t.val < 32)
/-- The third phase is the points from 32 on. -/
theorem at_c4 : ∀ t : Fin cfg0.N, k0_cond4 (grid0.coords t) = 1#1 ↔ 32 ≤ t.val :=
  (by decide +kernel : ∀ t : Fin grid0.N, k0_cond4 (grid0.coords t) = 1#1 ↔ 32 ≤ t.val)
/-- The output is computed at point 47 only. -/
theorem at_c5 : ∀ t : Fin cfg0.N, k0_cond5 (grid0.coords t) = 1#1 ↔ t.val = 47 :=
  (by decide +kernel : ∀ t : Fin grid0.N, k0_cond5 (grid0.coords t) = 1#1 ↔ t.val = 47)
/-- The slice a point of the first phase writes. -/
theorem at_off1 : ∀ t : Fin cfg0.N, t.val < 16 → k0_off1 (grid0.coords t) = ![t.val, 0, 0] :=
  (by decide +kernel : ∀ t : Fin grid0.N, t.val < 16 → k0_off1 (grid0.coords t) = ![t.val, 0, 0])
/-- The slice a point of the second phase reads and writes. -/
theorem at_off2 : ∀ t : Fin cfg0.N, 16 ≤ t.val ∧ t.val < 32 → k0_off2 (grid0.coords t) = ![t.val - 16, 0, 0] :=
  (by decide +kernel : ∀ t : Fin grid0.N, 16 ≤ t.val ∧ t.val < 32 → k0_off2 (grid0.coords t) = ![t.val - 16, 0, 0])
/-- The slice a point of the third phase reads. -/
theorem at_off3 : ∀ t : Fin cfg0.N, 32 ≤ t.val → k0_off3 (grid0.coords t) = ![t.val - 32, 0, 0] :=
  (by decide +kernel : ∀ t : Fin grid0.N, 32 ≤ t.val → k0_off3 (grid0.coords t) = ![t.val - 32, 0, 0])
/-- The left half-row a point of the third phase writes. -/
theorem at_off4 : ∀ t : Fin cfg0.N, 32 ≤ t.val → k0_off4 (grid0.coords t) = ![t.val - 32, 0] :=
  (by decide +kernel : ∀ t : Fin grid0.N, 32 ≤ t.val → k0_off4 (grid0.coords t) = ![t.val - 32, 0])
/-- The right half-row a point of the third phase writes. -/
theorem at_off5 : ∀ t : Fin cfg0.N, 32 ≤ t.val → k0_off5 (grid0.coords t) = ![t.val - 32, 512] :=
  (by decide +kernel : ∀ t : Fin grid0.N, 32 ≤ t.val → k0_off5 (grid0.coords t) = ![t.val - 32, 512])
/-- The output's window is idle before point 47. -/
theorem at_idle : ∀ t : Fin cfg0.N, t.val ≠ 47 → cfg0.idle 10 (grid0.coords t) = true :=
  (by decide +kernel : ∀ t : Fin grid0.N, t.val ≠ 47 → idle0 10 (grid0.coords t) = true)
/-- The output's window is live at point 47. -/
theorem at_live : ∀ t : Fin cfg0.N, t.val = 47 → cfg0.idle 10 (grid0.coords t) = false :=
  (by decide +kernel : ∀ t : Fin grid0.N, t.val = 47 → idle0 10 (grid0.coords t) = false)
/-- The output is not written back before point 47. -/
theorem at_noFlush (t : Fin cfg0.N) (h : t.val ≠ 47) : (cfg0.win 10).flush t = false := by
  have hN : t.val < 48 := lt_of_lt_of_eq t.isLt (show cfg0.N = 48 from N_0)
  have := (not_congr (flush0_10 t)).mpr (by omega)
  simpa using this

/-- A window does not depend on how its offsets are spelt. -/
theorem window_off {α : Type} {s : Shape} (x : s.Idx → α) {off off' size : Fin s.rank → ℕ} (h : off = off') (i1 : ∀ a, off a + size a ≤ s.size a) (i2 : ∀ a, off' a + size a ≤ s.size a) :
    VecWindow.window x off size i1 = VecWindow.window x off' size i2 := by subst h; rfl

/-! ## The operands -/

/-- Point 0. -/
def t0 : Fin cfg0.N := ⟨0, by rw [show cfg0.N = 48 from N_0]; omega⟩

/-- Point `n`, or the last one past the end. -/
def pt (n : ℕ) : Fin cfg0.N := ⟨min n 47, by rw [show cfg0.N = 48 from N_0]; omega⟩

/-- The operands as the region finds them. -/
def ins (c : Dev nD) : Ins F where
  x n := iblk m c 0 (pt n)
  w1 := iblk m c 1 t0
  w2 := iblk m c 2 t0
  g1 := iblk m c 3 t0
  b1 := iblk m c 4 t0
  g2 := iblk m c 5 t0
  b2 := iblk m c 6 t0
  q := iblk m c 7 t0
  wo := iblk m c 8 t0
  bo := iblk m c 9 t0

/-- The block of `feat` at equal points is the same. -/
theorem blk0 (c : Dev nD) (t t' : Fin cfg0.N) (h : t = t') : (iblk m c 0 t : Vec F S2048x512 .f32) = iblk m c 0 t' := by subst h; rfl
/-- The block of `feat` at a point. -/
theorem ins_x (c : Dev nD) (t : Fin cfg0.N) : (ins m c).x t.val = iblk m c 0 t := by
  have hN : t.val < 48 := lt_of_lt_of_eq t.isLt (show cfg0.N = 48 from N_0)
  have e : (pt t.val : Fin cfg0.N) = t := Fin.ext (by show min t.val 47 = t.val; omega)
  exact blk0 m c (pt t.val) t e
/-- Operand 1 is whole at every point. -/
theorem ins_w1 (c : Dev nD) (t : Fin cfg0.N) : (ins m c).w1 = iblk m c 1 t := rfl
/-- Operand 2 is whole at every point. -/
theorem ins_w2 (c : Dev nD) (t : Fin cfg0.N) : (ins m c).w2 = iblk m c 2 t := rfl
/-- Operand 3 is whole at every point. -/
theorem ins_g1 (c : Dev nD) (t : Fin cfg0.N) : (ins m c).g1 = iblk m c 3 t := rfl
/-- Operand 4 is whole at every point. -/
theorem ins_b1 (c : Dev nD) (t : Fin cfg0.N) : (ins m c).b1 = iblk m c 4 t := rfl
/-- Operand 5 is whole at every point. -/
theorem ins_g2 (c : Dev nD) (t : Fin cfg0.N) : (ins m c).g2 = iblk m c 5 t := rfl
/-- Operand 6 is whole at every point. -/
theorem ins_b2 (c : Dev nD) (t : Fin cfg0.N) : (ins m c).b2 = iblk m c 6 t := rfl
/-- Operand 7 is whole at every point. -/
theorem ins_q (c : Dev nD) (t : Fin cfg0.N) : (ins m c).q = iblk m c 7 t := rfl
/-- Operand 8 is whole at every point. -/
theorem ins_wo (c : Dev nD) (t : Fin cfg0.N) : (ins m c).wo = iblk m c 8 t := rfl
/-- Operand 9 is whole at every point. -/
theorem ins_bo (c : Dev nD) (t : Fin cfg0.N) : (ins m c).bo = iblk m c 9 t := rfl

/-! ## The proof data -/

abbrev sc0 : Memref sig .tc .vmem S16x2048x512 .bf16 := Memref.whole cc0_scratch0
abbrev sc1 : Memref sig .tc .vmem S1x512 .f32 := Memref.whole cc0_scratch1
abbrev sc2 : Memref sig .tc .vmem S1x512 .f32 := Memref.whole cc0_scratch2
abbrev sc3 : Memref sig .tc .vmem S1x512 .f32 := Memref.whole cc0_scratch3
abbrev sc4 : Memref sig .tc .vmem S1x512 .f32 := Memref.whole cc0_scratch4
abbrev sc5 : Memref sig .tc .vmem S16x1024 .f32 := Memref.whole cc0_scratch5
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .smem S1x3 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S16x64 .f32 := win0_10.stage (cfg0.slots t 10)
abbrev hs10 (t : Fin cfg0.N) : (ms10 t).IsWhole := hstage0_10 ((cfg0.slots t 10).cast nbuf0_10)

/-- The scoped buffers at anything, one by one. -/
theorem PhiA_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The region's invariant before point `n`: the scratch buffers hold contents of which `Inv` says what is known. -/
def PhiS (c : Dev nD) (n : ℕ) : sProp 𝕄 :=
  iprop(∃ xs : Vec F S16x2048x512 .bf16, ∃ sa sb sc sd : Vec F S1x512 .f32, ∃ seg : Vec F S16x1024 .f32, ⌜Inv (ins m c) n xs sa sb sc sd seg⌝ ∗ iprop(owns (c : Thread nD τ) sc0 fullShare xs ∗ owns (c : Thread nD τ) sc1 fullShare sa ∗ owns (c : Thread nD τ) sc2 fullShare sb ∗ owns (c : Thread nD τ) sc3 fullShare sc ∗ owns (c : Thread nD τ) sc4 fullShare sd ∗ owns (c : Thread nD τ) sc5 fullShare seg) ∗ (∃ r, prngReg c r))

/-- The proof data: every input window keeps its block, the output's holds `OUT`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT (ins m c)
  Φ t := PhiS m c t.val
  q _ := fullShare
  owed _ := 0

/-- The arrays are as the region finds them. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = OUT (ins m c) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (grid0.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (grid0.coords t) = false from rfl, after9]
theorem leaves10 (c : Dev nD) (t : Fin cfg0.N) (h : t.val = 47) : (dats m 0 c).leavesExact 10 t = owns (c : Thread nD τ) (ms10 t) fullShare (OUT (ins m c)) := by
  unfold Dat.leavesExact; rw [at_live t h, after10]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at the first point. -/
theorem sound_first (c : Dev nD) (t : Fin cfg0.N) (h : t.val = 0) :
    bodyPre m c t ⊢ wp frame (wpE (defs₀ (F := F)) Variants.none c none) Set.univ (bodyAt0 t) (fun _ => bodyPost m c t) := by
  have hN : t.val < 48 := lt_of_lt_of_eq t.isLt (show cfg0.N = 48 from N_0)
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [Dat.leavesExact_idle (dats m 0 c) 10 t (at_idle t (by omega)) (at_noFlush t (by omega))]
  unfold PhiS
  iintro ⟨⟨%xs, %sa, %sb, %sc, %sd, %seg, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hJ : Inv (ins m c) (t.val + 1) (VecWindow.put xs (k0_off1 (grid0.coords t)) S1x2048x512.size (k0_pay8 (iblk m c 0 t) (iblk m c 1 t))) (k0_pay6 (iblk m c 0 t) (iblk m c 1 t) k0_pay2) (k0_pay7 (iblk m c 0 t) (iblk m c 1 t) k0_pay3) k0_pay4 k0_pay5 seg := by
    have := inv_first (I := ins m c) (xs := xs) seg
    rw [at_off1 t (by omega), ← ins_x m c t, ← ins_w1 m c t, h]; exact this
  iapply (run_first c (grid0.coords t) _ _ _ _ _ _ _ _ _ _ _ _ _ _ _ _ _ _ _ _ _ _ _ _ _ _ _ _ _ _ _ _ _ _ ((at_c1 t).mpr (by omega)) ((at_first t).mpr h) (fun h' => absurd ((at_c3 t).mp h') (by omega)) (fun h' => absurd ((at_c4 t).mp h') (by omega)) (iblk m c 0 t) (iblk m c 1 t) xs sa sb sc sd Set.univ _)
  isplitl [H0]; · iexact H0
  isplitl [H1]; · iexact H1
  isplitl [HS0]; · iexact HS0
  isplitl [HS1]; · iexact HS1
  isplitl [HS2]; · iexact HS2
  isplitl [HS3]; · iexact HS3
  isplitl [HS4]; · iexact HS4
  iintro ⟨H0, H1, HS0, HS1, HS2, HS3, HS4⟩
  isplitl [HS0 HS1 HS2 HS3 HS4 HS5 Hg]
  · iexists _, _, _, _, _, _; isplitr
    · ipureintro; exact hJ
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- The body at a later point of the first phase. -/
theorem sound_p0 (c : Dev nD) (t : Fin cfg0.N) (h0 : 0 < t.val) (h : t.val < 16) :
    bodyPre m c t ⊢ wp frame (wpE (defs₀ (F := F)) Variants.none c none) Set.univ (bodyAt0 t) (fun _ => bodyPost m c t) := by
  have hN : t.val < 48 := lt_of_lt_of_eq t.isLt (show cfg0.N = 48 from N_0)
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [Dat.leavesExact_idle (dats m 0 c) 10 t (at_idle t (by omega)) (at_noFlush t (by omega))]
  unfold PhiS
  iintro ⟨⟨%xs, %sa, %sb, %sc, %sd, %seg, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hJ : Inv (ins m c) (t.val + 1) (VecWindow.put xs (k0_off1 (grid0.coords t)) S1x2048x512.size (k0_pay8 (iblk m c 0 t) (iblk m c 1 t))) (k0_pay6 (iblk m c 0 t) (iblk m c 1 t) sa) (k0_pay7 (iblk m c 0 t) (iblk m c 1 t) sb) sc sd seg := by
    have := inv_p0 hI h0 h
    rw [at_off1 t h, ← ins_x m c t, ← ins_w1 m c t]; exact this
  iapply (run_p0 c (grid0.coords t) _ _ _ _ _ _ _ _ _ _ _ _ _ _ _ _ _ _ _ _ _ _ _ _ _ _ _ _ _ _ _ _ _ _ ((at_c1 t).mpr h) (fun h' => absurd ((at_first t).mp h') (by omega)) (fun h' => absurd ((at_c3 t).mp h') (by omega)) (fun h' => absurd ((at_c4 t).mp h') (by omega)) (iblk m c 0 t) (iblk m c 1 t) xs sa sb Set.univ _)
  isplitl [H0]; · iexact H0
  isplitl [H1]; · iexact H1
  isplitl [HS0]; · iexact HS0
  isplitl [HS1]; · iexact HS1
  isplitl [HS2]; · iexact HS2
  iintro ⟨H0, H1, HS0, HS1, HS2⟩
  isplitl [HS0 HS1 HS2 HS3 HS4 HS5 Hg]
  · iexists _, _, _, _, _, _; isplitr
    · ipureintro; exact hJ
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- The body at a point of the second phase. -/
theorem sound_p1 (c : Dev nD) (t : Fin cfg0.N) (h : 16 ≤ t.val ∧ t.val < 32) :
    bodyPre m c t ⊢ wp frame (wpE (defs₀ (F := F)) Variants.none c none) Set.univ (bodyAt0 t) (fun _ => bodyPost m c t) := by
  have hN : t.val < 48 := lt_of_lt_of_eq t.isLt (show cfg0.N = 48 from N_0)
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [Dat.leavesExact_idle (dats m 0 c) 10 t (at_idle t (by omega)) (at_noFlush t (by omega))]
  unfold PhiS
  iintro ⟨⟨%xs, %sa, %sb, %sc, %sd, %seg, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hJ : Inv (ins m c) (t.val + 1) (VecWindow.put xs (k0_off2 (grid0.coords t)) S1x2048x512.size (k0_pay11 (k0_pay16 sa sb (iblk m c 3 t) (iblk m c 4 t) (VecWindow.window xs (k0_off2 (grid0.coords t)) S1x2048x512.size (k0_off2_inb (grid0.coords t) ((at_c3 t).mpr h))) (iblk m c 2 t)))) sa sb (k0_pay9 (k0_pay17 sa sb (iblk m c 3 t) (iblk m c 4 t) (VecWindow.window xs (k0_off2 (grid0.coords t)) S1x2048x512.size (k0_off2_inb (grid0.coords t) ((at_c3 t).mpr h))) (iblk m c 2 t) sc)) (k0_pay10 (k0_pay16 sa sb (iblk m c 3 t) (iblk m c 4 t) (VecWindow.window xs (k0_off2 (grid0.coords t)) S1x2048x512.size (k0_off2_inb (grid0.coords t) ((at_c3 t).mpr h))) (iblk m c 2 t)) sd) seg := by
    have := inv_p1 hI h.1 h.2 (by omega)
    rw [window_off xs (at_off2 t h) _ (slice_inb (by omega)), at_off2 t h, ← ins_w2 m c t, ← ins_g1 m c t, ← ins_b1 m c t]; exact this
  iapply (run_p1 c (grid0.coords t) _ _ _ _ _ _ _ _ _ _ _ _ _ _ _ _ _ _ _ _ _ _ _ _ _ _ _ _ _ _ _ _ _ _ (fun h' => absurd ((at_c1 t).mp h') (by omega)) ((at_c3 t).mpr h) (fun h' => absurd ((at_c4 t).mp h') (by omega)) (iblk m c 2 t) (iblk m c 3 t) (iblk m c 4 t) xs sa sb sc sd Set.univ _)
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  iintro ⟨H2, H3, H4, HS0, HS1, HS2, HS3, HS4⟩
  isplitl [HS0 HS1 HS2 HS3 HS4 HS5 Hg]
  · iexists _, _, _, _, _, _; isplitr
    · ipureintro; exact hJ
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- The body at a point of the third phase but the last. -/
theorem sound_p2 (c : Dev nD) (t : Fin cfg0.N) (h4 : 32 ≤ t.val) (h : t.val < 47) :
    bodyPre m c t ⊢ wp frame (wpE (defs₀ (F := F)) Variants.none c none) Set.univ (bodyAt0 t) (fun _ => bodyPost m c t) := by
  have hN : t.val < 48 := lt_of_lt_of_eq t.isLt (show cfg0.N = 48 from N_0)
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [Dat.leavesExact_idle (dats m 0 c) 10 t (at_idle t (by omega)) (at_noFlush t (by omega))]
  unfold PhiS
  iintro ⟨⟨%xs, %sa, %sb, %sc, %sd, %seg, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hJ : Inv (ins m c) (t.val + 1) xs sa sb sc sd (VecWindow.put (VecWindow.put seg (k0_off4 (grid0.coords t)) S1x512.size (k0_pay13 (k0_pay18 sc sd (iblk m c 5 t) (iblk m c 6 t) (VecWindow.window xs (k0_off3 (grid0.coords t)) S1x2048x512.size (k0_off3_inb (grid0.coords t) ((at_c4 t).mpr h4)))) (iblk m c 7 t (wcol 0)) (iblk m c 7 t (wcol 1)) (iblk m c 7 t (wcol 2)) (k0_pay19 sc sd (iblk m c 5 t) (iblk m c 6 t) (VecWindow.window xs (k0_off3 (grid0.coords t)) S1x2048x512.size (k0_off3_inb (grid0.coords t) ((at_c4 t).mpr h4)))))) (k0_off5 (grid0.coords t)) S1x512.size (k0_pay14 (k0_pay18 sc sd (iblk m c 5 t) (iblk m c 6 t) (VecWindow.window xs (k0_off3 (grid0.coords t)) S1x2048x512.size (k0_off3_inb (grid0.coords t) ((at_c4 t).mpr h4)))) (iblk m c 7 t (wcol 0)) (iblk m c 7 t (wcol 1)) (iblk m c 7 t (wcol 2)) (k0_pay19 sc sd (iblk m c 5 t) (iblk m c 6 t) (VecWindow.window xs (k0_off3 (grid0.coords t)) S1x2048x512.size (k0_off3_inb (grid0.coords t) ((at_c4 t).mpr h4)))))) := by
    have := inv_p2 hI h4 hN (by omega)
    rw [window_off xs (at_off3 t h4) _ (slice_inb (by omega)), at_off4 t h4, at_off5 t h4, ← ins_g2 m c t, ← ins_b2 m c t, ← ins_q m c t]; exact this
  iapply (run_p2 c (grid0.coords t) _ _ _ _ _ _ _ _ _ _ _ _ _ _ _ _ _ _ _ _ _ _ _ _ _ _ _ _ _ _ _ _ _ _ (fun h' => absurd ((at_c1 t).mp h') (by omega)) (fun h' => absurd ((at_c3 t).mp h') (by omega)) ((at_c4 t).mpr h4) (fun h' => absurd ((at_c5 t).mp h') (by omega)) (iblk m c 5 t) (iblk m c 6 t) (iblk m c 7 t) xs sc sd seg Set.univ _)
  isplitl [H5]; · iexact H5
  isplitl [H6]; · iexact H6
  isplitl [H7]; · iexact H7
  isplitl [HS0]; · iexact HS0
  isplitl [HS3]; · iexact HS3
  isplitl [HS4]; · iexact HS4
  isplitl [HS5]; · iexact HS5
  iintro ⟨H5, H6, H7, HS0, HS3, HS4, HS5⟩
  isplitl [HS0 HS1 HS2 HS3 HS4 HS5 Hg]
  · iexists _, _, _, _, _, _; isplitr
    · ipureintro; exact hJ
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

set_option maxHeartbeats 4000000 in
/-- The body at the last point. -/
theorem sound_last (c : Dev nD) (t : Fin cfg0.N) (h : t.val = 47) :
    bodyPre m c t ⊢ wp frame (wpE (defs₀ (F := F)) Variants.none c none) Set.univ (bodyAt0 t) (fun _ => bodyPost m c t) := by
  have hN : t.val < 48 := lt_of_lt_of_eq t.isLt (show cfg0.N = 48 from N_0)
  unfold bodyPre bodyPost bodyAt0
  simp only [before0, before1, before2, before3, before4, before5, before6, before7, before8, before9, leaves0, leaves1, leaves2, leaves3, leaves4, leaves5, leaves6, leaves7, leaves8, leaves9]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves10 m c t h]
  unfold PhiS
  iintro ⟨⟨%xs, %sa, %sb, %sc, %sd, %seg, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have h4 : 32 ≤ t.val := by omega
  have hJ : Inv (ins m c) (t.val + 1) xs sa sb sc sd (VecWindow.put (VecWindow.put seg (k0_off4 (grid0.coords t)) S1x512.size (k0_pay13 (k0_pay18 sc sd (iblk m c 5 t) (iblk m c 6 t) (VecWindow.window xs (k0_off3 (grid0.coords t)) S1x2048x512.size (k0_off3_inb (grid0.coords t) ((at_c4 t).mpr h4)))) (iblk m c 7 t (wcol 0)) (iblk m c 7 t (wcol 1)) (iblk m c 7 t (wcol 2)) (k0_pay19 sc sd (iblk m c 5 t) (iblk m c 6 t) (VecWindow.window xs (k0_off3 (grid0.coords t)) S1x2048x512.size (k0_off3_inb (grid0.coords t) ((at_c4 t).mpr h4)))))) (k0_off5 (grid0.coords t)) S1x512.size (k0_pay14 (k0_pay18 sc sd (iblk m c 5 t) (iblk m c 6 t) (VecWindow.window xs (k0_off3 (grid0.coords t)) S1x2048x512.size (k0_off3_inb (grid0.coords t) ((at_c4 t).mpr h4)))) (iblk m c 7 t (wcol 0)) (iblk m c 7 t (wcol 1)) (iblk m c 7 t (wcol 2)) (k0_pay19 sc sd (iblk m c 5 t) (iblk m c 6 t) (VecWindow.window xs (k0_off3 (grid0.coords t)) S1x2048x512.size (k0_off3_inb (grid0.coords t) ((at_c4 t).mpr h4)))))) := by
    have := inv_p2 hI h4 hN (by omega)
    rw [window_off xs (at_off3 t h4) _ (slice_inb (by omega)), at_off4 t h4, at_off5 t h4, ← ins_g2 m c t, ← ins_b2 m c t, ← ins_q m c t]; exact this
  have hseg : SEG (ins m c) = (VecWindow.put (VecWindow.put seg (k0_off4 (grid0.coords t)) S1x512.size (k0_pay13 (k0_pay18 sc sd (iblk m c 5 t) (iblk m c 6 t) (VecWindow.window xs (k0_off3 (grid0.coords t)) S1x2048x512.size (k0_off3_inb (grid0.coords t) ((at_c4 t).mpr h4)))) (iblk m c 7 t (wcol 0)) (iblk m c 7 t (wcol 1)) (iblk m c 7 t (wcol 2)) (k0_pay19 sc sd (iblk m c 5 t) (iblk m c 6 t) (VecWindow.window xs (k0_off3 (grid0.coords t)) S1x2048x512.size (k0_off3_inb (grid0.coords t) ((at_c4 t).mpr h4)))))) (k0_off5 (grid0.coords t)) S1x512.size (k0_pay14 (k0_pay18 sc sd (iblk m c 5 t) (iblk m c 6 t) (VecWindow.window xs (k0_off3 (grid0.coords t)) S1x2048x512.size (k0_off3_inb (grid0.coords t) ((at_c4 t).mpr h4)))) (iblk m c 7 t (wcol 0)) (iblk m c 7 t (wcol 1)) (iblk m c 7 t (wcol 2)) (k0_pay19 sc sd (iblk m c 5 t) (iblk m c 6 t) (VecWindow.window xs (k0_off3 (grid0.coords t)) S1x2048x512.size (k0_off3_inb (grid0.coords t) ((at_c4 t).mpr h4)))))) := by
    have e := hJ
    rw [show t.val + 1 = 48 by omega] at e
    exact (seg_whole e).symm
  iapply (run_last c (grid0.coords t) _ _ _ _ _ _ _ _ _ _ _ _ _ _ _ _ _ _ _ _ _ _ _ _ _ _ _ _ _ _ _ _ _ _ (fun h' => absurd ((at_c1 t).mp h') (by omega)) (fun h' => absurd ((at_c3 t).mp h') (by omega)) ((at_c4 t).mpr h4) ((at_c5 t).mpr h) (iblk m c 5 t) (iblk m c 6 t) (iblk m c 7 t) (iblk m c 8 t) (iblk m c 9 t) _ xs sc sd seg Set.univ _)
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS3]; · iexact HS3
  isplitl [HS4]; · iexact HS4
  isplitl [HS5]; · iexact HS5
  iintro ⟨H5, H6, H7, H8, H9, H10, HS0, HS3, HS4, HS5⟩
  isplitl [HS0 HS1 HS2 HS3 HS4 HS5 Hg]
  · iexists _, _, _, _, _, _; isplitr
    · ipureintro; exact hJ
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [OUT, hseg]; iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 48 := lt_of_lt_of_eq t.isLt (show cfg0.N = 48 from N_0)
  rcases Nat.lt_or_ge t.val 16 with h | h
  · rcases Nat.eq_zero_or_pos t.val with h0 | h0
    · exact sound_first m c t h0
    · exact sound_p0 m c t h0 h
  · rcases Nat.lt_or_ge t.val 32 with h2 | h2
    · exact sound_p1 m c t ⟨h, h2⟩
    · rcases Nat.lt_or_ge t.val 47 with h3 | h3
      · exact sound_p2 m c t h2 h3
      · exact sound_last m c t (by omega)

/-- The body table's row is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Nothing is known of the scratch before the first point. -/
theorem inv_zero (c : Dev nD) (xs : Vec F S16x2048x512 .bf16) (sa sb sc sd : Vec F S1x512 .f32) (seg : Vec F S16x1024 .f32) : Inv (ins m c) 0 xs sa sb sc sd seg where
  a h := absurd h (by omega)
  b h := absurd h (by omega)
  c h := absurd h (by omega)
  d h := absurd h (by omega)
  s j _ h := absurd h (by omega)
  l j _ h := absurd h (by omega)
  r j _ h := absurd h (by omega)

/-- What the launch hands over is the invariant before the first point. -/
theorem hin (c : Dev nD) : (Pipeline.ΦA spec0 c : sProp 𝕄) ⊢ (dats m 0 c).Φ 0 := by
  rw [show (dats m 0 c).Φ 0 = PhiS m c 0 from rfl, PhiA_eq]
  unfold PhiS
  iintro ⟨⟨⟨%xs, HS0⟩, ⟨%sa, HS1⟩, ⟨%sb, HS2⟩, ⟨%sc, HS3⟩, ⟨%sd, HS4⟩, ⟨%seg, HS5⟩⟩, Hg⟩
  iexists _, _, _, _, _, _; isplitr
  · ipureintro; exact inv_zero m c xs sa sb sc sd seg
  isplitl [HS0 HS1 HS2 HS3 HS4 HS5]
  · isplitl [HS0]; · iexact HS0
    isplitl [HS1]; · iexact HS1
    isplitl [HS2]; · iexact HS2
    isplitl [HS3]; · iexact HS3
    isplitl [HS4]; · iexact HS4
    iexact HS5
  iexact Hg

/-- After the last point the scratch is given back. -/
theorem hout (c : Dev nD) : (dats m 0 c).Φ (Fin.last cfg0.N) ⊢ (Pipeline.ΦA spec0 c : sProp 𝕄) := by
  rw [show (dats m 0 c).Φ (Fin.last cfg0.N) = PhiS m c (Fin.last cfg0.N).val from rfl, PhiA_eq]
  unfold PhiS
  iintro ⟨%xs, %sa, %sb, %sc, %sd, %seg, %hI, ⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-! ## The run -/

set_option backward.isDefEq.respectTransparency.types false in
/-- Every execution ends with the arrays as the proof data say and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The same without the counters. -/
theorem run_post : θ_run defs (onTc (τ := τ) (main (F := F))) (s₀ m ρ) (Pipeline.FramePost cfgs (dats m) 0 (V m)) :=
  (θ_run defs _ _).mono (fun _ h => h.1) (run_all m ρ)

/-- The frame: every execution ends, with every argument as it was and every counter at zero. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  θ_run_and (frame_of m ρ (dats m) (A_eq m) (run_post m ρ)) ((θ_run defs _ _).mono (fun _ h => h.2) (run_all m ρ))

end Cert.KernelIdeal.Body
-- ==== Proof.PointMath.lean ====
module

public import Idealize.ShloMosaic.Lib.Pointwise
public import Idealize.ShloMosaic.Lib.IdealHost
public import Idealize.ShloMosaic.Lib.IndicatorCount

@[expose] public section

noncomputable section

namespace Cert.PointMath

open Idealize.ShloMosaic

/-- The number of points. -/
theorem n_eq : Ideal.ofBits FTy.f32 0x47000000#32 = ((32768 : ℝ) : EReal) := by
  simp [Ideal.ofBits, Ideal.ieee, -EReal.coe_mul]; norm_num
/-- 1/32768. -/
theorem inv_n_eq : Ideal.ofBits FTy.f32 0x38000000#32 = ((1 / 32768 : ℝ) : EReal) := by
  simp [Ideal.ofBits, Ideal.ieee, -EReal.coe_mul]; norm_num
/-- 1/2048. -/
theorem inv_seg_eq : Ideal.ofBits FTy.f32 0x3A000000#32 = ((1 / 2048 : ℝ) : EReal) := by
  simp [Ideal.ofBits, Ideal.ieee, -EReal.coe_mul]; norm_num
/-- Minus infinity. -/
theorem ninf_eq : Ideal.ofBits FTy.f32 0xFF800000#32 = (⊥ : EReal) := by
  simp [Ideal.ofBits, Ideal.ieee]
/-- Plus infinity. -/
theorem pinf_eq : Ideal.ofBits FTy.f32 0x7F800000#32 = (⊤ : EReal) := by
  simp [Ideal.ofBits, Ideal.ieee]
/-- The small number under the root is positive. -/
theorem eps_eq : ∃ ε : ℝ, 0 < ε ∧ Ideal.ofBits FTy.f32 0x3727C5AC#32 = (ε : EReal) := by
  refine ⟨_, ?_, by simp [Ideal.ofBits, Ideal.ieee, -EReal.coe_mul]; rfl⟩
  norm_num

/-- One column's normalized, scaled, shifted and clipped value as the kernel forms it, from the column's sum `s`, its sum of squares `q`, its scale `g`, its shift `e` and the value `x`. -/
def knorm (s q g e x : EReal) : EReal :=
  max (x * (g * Ideal.rsqrt (q * Ideal.ofBits FTy.f32 0x38000000#32 - s * Ideal.ofBits FTy.f32 0x38000000#32 * (s * Ideal.ofBits FTy.f32 0x38000000#32) + Ideal.ofBits FTy.f32 0x3727C5AC#32))
    + (e - s * Ideal.ofBits FTy.f32 0x38000000#32 * (g * Ideal.rsqrt (q * Ideal.ofBits FTy.f32 0x38000000#32 - s * Ideal.ofBits FTy.f32 0x38000000#32 * (s * Ideal.ofBits FTy.f32 0x38000000#32) + Ideal.ofBits FTy.f32 0x3727C5AC#32)))) 0

/-- A row times its gate, at one place: `h` is the row, `v` its value there, `m` its mean. -/
def kgate (h : Fin 512 → EReal) (p q c m v : EReal) : EReal :=
  v * Ideal.logistic (m * p + Finset.fold max (Ideal.ofBits FTy.f32 0xFF800000#32) h Finset.univ * q + c)

/-- A column's normalized, scaled, shifted and clipped value at row `r` as the reference forms it: the column `y`, its scale `g`, its shift `e`. -/
def rnorm (y : Fin 32768 → EReal) (g e : EReal) (r : Fin 32768) : EReal :=
  max (Ideal.div (y r - Ideal.div (∑ x, y x) (Ideal.ofBits FTy.f32 0x47000000#32))
      (Ideal.sqrt (Ideal.div (∑ x, (y x - Ideal.div (∑ x, y x) (Ideal.ofBits FTy.f32 0x47000000#32)) * (y x - Ideal.div (∑ x, y x) (Ideal.ofBits FTy.f32 0x47000000#32)))
        (Ideal.ofBits FTy.f32 0x47000000#32) + Ideal.ofBits FTy.f32 0x3727C5AC#32)) * g + e) 0

/-- A row times its gate at one place, as the reference forms it: `h` is the row, `v` its value there. -/
def rgate (h : Fin 512 → EReal) (p q c v : EReal) : EReal :=
  v * Ideal.div 1 (1 + Ideal.exp (-(Ideal.div (∑ x, h x) (Ideal.ofBits FTy.f32 0x44000000#32) * p + Finset.fold max (Ideal.ofBits FTy.f32 0xFF800000#32) h Finset.univ * q + c)))

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of squared deviations from `m`, expanded. -/
theorem sum_dev (x : Fin 32768 → ℝ) (m : ℝ) : ∑ i, (x i - m) * (x i - m) = ∑ i, x i * x i - 2 * m * ∑ i, x i + 32768 * (m * m) := by
  have h : ∀ i, (x i - m) * (x i - m) = x i * x i - 2 * m * x i + m * m := fun i => by ring
  simp only [h, Finset.sum_add_distrib, Finset.sum_sub_distrib, ← Finset.mul_sum, Finset.sum_const, Finset.card_univ, Fintype.card_fin, nsmul_eq_mul]
  push_cast
  ring

/-- The mean of squares less the square of the mean is the mean squared deviation. -/
theorem var_eq (x : Fin 32768 → ℝ) : (∑ i, x i * x i) * (1 / 32768) - (∑ i, x i) * (1 / 32768) * ((∑ i, x i) * (1 / 32768))
    = (∑ i, (x i - (∑ i, x i) * (1 / 32768)) * (x i - (∑ i, x i) * (1 / 32768))) * (1 / 32768) := by
  rw [sum_dev]; ring

/-- The reciprocal root of a positive real, both ways of writing it. -/
theorem root_pos {v : ℝ} (h : 0 < v) : Ideal.rsqrt (v : EReal) = (((Real.sqrt v)⁻¹ : ℝ) : EReal) ∧ ∀ y : EReal, Ideal.div y (Ideal.sqrt (v : EReal)) = y * (((Real.sqrt v)⁻¹ : ℝ) : EReal) := by
  constructor
  · rw [Ideal.rsqrt_coe, if_neg (not_lt.2 h.le), if_neg h.ne']
  · intro y
    rw [Ideal.sqrt_coe, if_neg (not_lt.2 h.le), Ideal.div_coe (Real.sqrt_pos.2 h).ne', one_div]

/-- Both normalizations are one affine map of a real column. -/
theorem norm_both (x : Fin 32768 → ℝ) (b g : ℝ) : ∃ ρ : ℝ, ∀ (e : EReal) (r : Fin 32768),
    knorm (∑ i, (x i : EReal)) (∑ i, (x i : EReal) * (x i : EReal)) g e (x r) = max ((((x r - (∑ i, x i) * (1 / 32768)) * ρ * g : ℝ) : EReal) + e) 0 ∧
    rnorm (fun i => (x i : EReal) + (b : EReal)) g e r = max ((((x r - (∑ i, x i) * (1 / 32768)) * ρ * g : ℝ) : EReal) + e) 0 := by
  obtain ⟨ε, hε, eε⟩ := eps_eq
  set S : ℝ := ∑ i, x i with hS
  set m : ℝ := S * (1 / 32768) with hm
  set v : ℝ := (∑ i, (x i - m) * (x i - m)) * (1 / 32768) with hv
  have hv0 : 0 ≤ v := mul_nonneg (Finset.sum_nonneg fun i _ => mul_self_nonneg _) (by norm_num)
  have hpos : 0 < v + ε := by linarith
  obtain ⟨h1, h2⟩ := root_pos hpos
  refine ⟨(Real.sqrt (v + ε))⁻¹, fun e r => ⟨?_, ?_⟩⟩
  · have hq : ∑ i, (x i : EReal) * (x i : EReal) = ((∑ i, x i * x i : ℝ) : EReal) := by
      rw [coe_sum]; exact Finset.sum_congr rfl fun i _ => (EReal.coe_mul _ _).symm
    unfold knorm
    rw [hq, ← coe_sum, inv_n_eq, eε, ← hS]
    simp only [← EReal.coe_mul, ← EReal.coe_sub, ← EReal.coe_add]
    rw [var_eq x, ← hS, ← hm, ← hv, h1]
    simp only [← EReal.coe_mul]
    refine congrArg (fun z => max z (0 : EReal)) ?_
    rw [sub_eq_add_neg, ← EReal.coe_neg, add_left_comm, ← EReal.coe_add, add_comm e]
    refine congrArg (fun z : ℝ => (z : EReal) + e) ?_
    ring
  · have hmean : Ideal.div (∑ i, ((x i : EReal) + (b : EReal))) ((32768 : ℝ) : EReal) = ((m + b : ℝ) : EReal) := by
      rw [Ideal.div_coe (by norm_num)]
      simp only [← EReal.coe_add]
      rw [← coe_sum, ← EReal.coe_mul, Finset.sum_add_distrib, ← hS, Finset.sum_const, Finset.card_univ, Fintype.card_fin, nsmul_eq_mul]
      refine congrArg (fun z : ℝ => (z : EReal)) ?_
      rw [hm]; push_cast; ring
    have hd : ∀ i, ((x i : EReal) + (b : EReal)) - ((m + b : ℝ) : EReal) = ((x i - m : ℝ) : EReal) := fun i => by
      rw [← EReal.coe_add, ← EReal.coe_sub]
      refine congrArg (fun z : ℝ => (z : EReal)) ?_
      ring
    unfold rnorm
    simp only [n_eq, hmean, hd]
    simp only [← EReal.coe_mul]
    rw [← coe_sum, Ideal.div_coe (by norm_num), ← EReal.coe_mul, ← hv, eε, ← EReal.coe_add, h2]
    simp only [← EReal.coe_mul]

/-- The kernel's normalization of a real column is the reference's normalization of the column with a bias added. -/
theorem norm_eq (x : Fin 32768 → ℝ) (b g : ℝ) (e : EReal) (r : Fin 32768) :
    knorm (∑ i, (x i : EReal)) (∑ i, (x i : EReal) * (x i : EReal)) g e (x r) = rnorm (fun i => (x i : EReal) + (b : EReal)) g e r := by
  obtain ⟨ρ, h⟩ := norm_both x b g
  rw [(h e r).1, (h e r).2]

/-- With a real shift the normalized value is real. -/
theorem norm_real (x : Fin 32768 → ℝ) (g e : ℝ) (r : Fin 32768) : ∃ t : ℝ,
    knorm (∑ i, (x i : EReal)) (∑ i, (x i : EReal) * (x i : EReal)) g (e : EReal) (x r) = (t : EReal) := by
  obtain ⟨ρ, h⟩ := norm_both x 0 g
  refine ⟨max ((x r - (∑ i, x i) * (1 / 32768)) * ρ * g + e) 0, ?_⟩
  rw [(h e r).1, ← EReal.coe_add]
  exact (EReal.coe_strictMono.monotone.map_max).symm

/-- The gates agree. -/
theorem gate_eq (h : Fin 512 → EReal) (p q c v : EReal) : kgate h p q c (Ideal.div (∑ x, h x) (Ideal.ofBits FTy.f32 0x44000000#32)) v = rgate h p q c v := rfl

/-- The point `r` of block `j`. -/
def pnt (j : Fin 16) (r : Fin 2048) : Fin 32768 := ⟨2048 * j.val + r.val, by have := j.isLt; have := r.isLt; omega⟩

/-- Every point is the point of a block. -/
theorem pnt_div (i : Fin 32768) : pnt ⟨i.val / 2048, by have := i.isLt; omega⟩ ⟨i.val % 2048, Nat.mod_lt _ (by norm_num)⟩ = i :=
  Fin.ext (by show 2048 * (i.val / 2048) + i.val % 2048 = i.val; omega)

/-- The sum over the points is the sum over the blocks of the sums over each. -/
theorem sum_blocks (f : Fin 32768 → EReal) : ∑ i, f i = ∑ j : Fin 16, ∑ r : Fin 2048, f (pnt j r) := by
  rw [← Finset.sum_product', Finset.univ_product_univ]
  refine (Fintype.sum_bijective (fun z : Fin 16 × Fin 2048 => pnt z.1 z.2) ⟨?_, ?_⟩ _ _ fun z => rfl).symm
  · rintro ⟨j, r⟩ ⟨k, s⟩ h
    have h' : 2048 * j.val + r.val = 2048 * k.val + s.val := congrArg Fin.val h
    have := r.isLt; have := s.isLt
    exact Prod.ext (Fin.ext (by show j.val = k.val; omega)) (Fin.ext (by show r.val = s.val; omega))
  · exact fun i => ⟨(_, _), pnt_div i⟩

/-- A sum over the points of segment `i` only. -/
theorem sum_member (b : Fin 32768 → BitVec 1) (i : Fin 16) (hb : ∀ j r, b (pnt j r) = 1#1 ↔ j = i) (f : Fin 32768 → EReal) :
    ∑ r, Scalar.select (b r) (f r) 0 = ∑ r : Fin 2048, f (pnt i r) := by
  rw [sum_blocks, Finset.sum_eq_single i]
  · exact Finset.sum_congr rfl fun r _ => by rw [(hb i r).2 rfl]; rfl
  · intro j _ hj
    refine Finset.sum_eq_zero fun r _ => ?_
    have : b (pnt j r) = 0#1 := (BitVec.eq_zero_or_eq_one _).resolve_right fun h => hj ((hb j r).1 h)
    rw [this]; rfl
  · exact fun h => absurd (Finset.mem_univ _) h

/-- A maximum over the points of segment `i` only. -/
theorem max_member (b : Fin 32768 → BitVec 1) (i : Fin 16) (hb : ∀ j r, b (pnt j r) = 1#1 ↔ j = i) (f : Fin 32768 → EReal) :
    Finset.fold max ⊥ (fun r => Scalar.select (b r) (f r) ⊥) Finset.univ = Finset.fold max ⊥ (fun r : Fin 2048 => f (pnt i r)) Finset.univ := by
  show Finset.univ.sup (fun r => Scalar.select (b r) (f r) ⊥) = Finset.univ.sup (fun r : Fin 2048 => f (pnt i r))
  refine le_antisymm (Finset.sup_le fun r _ => ?_) (Finset.sup_le fun r _ => ?_)
  · rcases BitVec.eq_zero_or_eq_one (b r) with h | h
    · rw [h]; exact bot_le
    · rw [h]
      show f r ≤ _
      have e := pnt_div r
      have hj := (hb ⟨r.val / 2048, by have := r.isLt; omega⟩ ⟨r.val % 2048, Nat.mod_lt _ (by norm_num)⟩).1 (by rw [e, h])
      rw [hj] at e
      have hle : f (pnt i ⟨r.val % 2048, Nat.mod_lt _ (by norm_num)⟩) ≤ Finset.univ.sup (fun r : Fin 2048 => f (pnt i r)) :=
        Finset.le_sup (f := fun r : Fin 2048 => f (pnt i r)) (Finset.mem_univ _)
      rwa [e] at hle
  · refine le_trans (le_of_eq ?_) (Finset.le_sup (Finset.mem_univ (pnt i r)))
    rw [(hb i r).2 rfl]; rfl

/-- The mean over 2048 members. -/
theorem mean_eq (t : EReal) : Ideal.div t (max (∑ _r : Fin 2048, (1 : EReal)) 1) = t * Ideal.ofBits FTy.f32 0x3A000000#32 := by
  have h : (∑ _r : Fin 2048, (1 : EReal)) = ((2048 : ℝ) : EReal) := by
    rw [show (1 : EReal) = ((1 : ℝ) : EReal) from rfl, ← coe_sum]; congr 1; simp
  have h1 : max ((2048 : ℝ) : EReal) 1 = ((2048 : ℝ) : EReal) := max_eq_left (by rw [show (1 : EReal) = ((1 : ℝ) : EReal) from rfl]; exact_mod_cast (by norm_num : (1 : ℝ) ≤ 2048))
  rw [h, h1, Ideal.div_coe (by norm_num), inv_seg_eq]

/-- A 32-bit word of a small number, as an integer. -/
theorem toInt_small {n : ℕ} (h : n < 2 ^ 31) : (BitVec.ofNat 32 n).toInt = n := by
  rw [BitVec.toInt_eq_toNat_cond, BitVec.toNat_ofNat, Nat.mod_eq_of_lt (by omega)]
  rw [if_pos (by omega)]

/-- Comparing two small words. -/
theorem sle_small {a b : ℕ} (ha : a < 2 ^ 31) (hb : b < 2 ^ 31) : IntOp.cmpi CmpIPredicate.sle (BitVec.ofNat 32 a) (BitVec.ofNat 32 b) = 1#1 ↔ a ≤ b := by
  have e : IntOp.cmpi CmpIPredicate.sle (BitVec.ofNat 32 a) (BitVec.ofNat 32 b) = BitVec.ofBool ((BitVec.ofNat 32 a).sle (BitVec.ofNat 32 b)) := rfl
  rw [e, BitVec.sle, toInt_small ha, toInt_small hb]
  by_cases h : a ≤ b
  · simp [h]
  · simp [h]

/-- The number of segment ends up to a point is the point's block. -/
theorem count_ends (r : ℕ) (h : r < 32768) : (Finset.univ.filter fun x : Fin 16 => 2048 * (x.val + 1) ≤ r).card = r / 2048 := by
  have e : ∀ x : Fin 16, 2048 * (x.val + 1) ≤ r ↔ x.val < r / 2048 := fun x => by omega
  simp only [e]
  have hc : r / 2048 < 16 := by omega
  generalize r / 2048 = c at hc
  interval_cases c <;> decide

/-- Which points belong to which segment: point `r` of block `j` belongs to segment `j`. -/
theorem member (off : Fin 16 → BitVec 32) (ho : ∀ x, off x = BitVec.ofNat 32 (2048 * (x.val + 1))) (i j : Fin 16) (r : Fin 2048) :
    IntOp.cmpi CmpIPredicate.eq (BitVec.ofNat 32 i.val)
      (Finset.fold IntOp.addi (0#32) (fun x : Fin 16 => BitVec.setWidth 32 (IntOp.cmpi CmpIPredicate.sle (off x) (BitVec.ofNat 32 (pnt j r).val))) Finset.univ) = 1#1 ↔ j = i := by
  rw [IndicatorCount.fold_addi_setWidth_eq_card (fun x : Fin 16 => IntOp.cmpi CmpIPredicate.sle (off x) (BitVec.ofNat 32 (pnt j r).val))]
  have hl := (pnt j r).isLt
  have hs : (Finset.univ.filter fun x : Fin 16 => IntOp.cmpi CmpIPredicate.sle (off x) (BitVec.ofNat 32 (pnt j r).val) = 1#1)
      = Finset.univ.filter fun x : Fin 16 => 2048 * (x.val + 1) ≤ (pnt j r).val :=
    Finset.filter_congr fun x _ => by rw [ho x]; exact sle_small (by have := x.isLt; omega) (by omega)
  rw [hs, count_ends _ hl, show (pnt j r).val / 2048 = j.val by show (2048 * j.val + r.val) / 2048 = j.val; have := r.isLt; omega]
  have e : IntOp.cmpi CmpIPredicate.eq (BitVec.ofNat 32 i.val) (BitVec.ofNat 32 j.val) = BitVec.ofBool (BitVec.ofNat 32 i.val == BitVec.ofNat 32 j.val) := rfl
  rw [e]
  constructor
  · intro h
    have h2 : BitVec.ofNat 32 i.val = BitVec.ofNat 32 j.val := by
      by_contra hne
      rw [beq_eq_false_iff_ne.2 hne] at h
      exact absurd h (by decide)
    have h3 := congrArg BitVec.toNat h2
    rw [BitVec.toNat_ofNat, BitVec.toNat_ofNat] at h3
    have := i.isLt; have := j.isLt
    exact Fin.ext (by omega)
  · rintro rfl; simp

end Cert.PointMath
-- ==== Proof.KernelPay.lean ====
module

public import proofs.«01_k».proof.Proof.KernelIdealSpec
public import proofs.«01_k».proof.Proof.PointMath

@[expose] public section

set_option maxRecDepth 16384

noncomputable section

namespace Cert.KernelIdeal.Body

open Cert.KernelIdeal Cert.KernelIdeal.Gen
open Idealize.ShloMosaic
open Cert.PointMath (knorm kgate)

variable (x : Vec Ideal S2048x512 .f32) (w : Vec Ideal S512x512 .bf16) (s a b g e : Vec Ideal S1x512 .f32) (z : Vec Ideal S1x2048x512 .bf16)

/-- The first product of a block, at a place. -/
theorem pay1_apply (r : Fin 2048) (o : Fin 512) : k0_pay1 x w (ix2 r o) = ∑ k : Fin 512, x (ix2 r k) * w (ix2 k o) := by
  pointwise [k0_pay1]
/-- The first zero row. -/
theorem pay2_apply (o : Fin 512) : k0_pay2 (F := Ideal) (ix2 0 o) = (0 : EReal) := by
  pointwise [k0_pay2]
/-- The second zero row. -/
theorem pay3_apply (o : Fin 512) : k0_pay3 (F := Ideal) (ix2 0 o) = (0 : EReal) := by
  pointwise [k0_pay3]
/-- The third zero row. -/
theorem pay4_apply (o : Fin 512) : k0_pay4 (F := Ideal) (ix2 0 o) = (0 : EReal) := by
  pointwise [k0_pay4]
/-- The fourth zero row. -/
theorem pay5_apply (o : Fin 512) : k0_pay5 (F := Ideal) (ix2 0 o) = (0 : EReal) := by
  pointwise [k0_pay5]
/-- A block's column sums are added. -/
theorem pay6_apply (o : Fin 512) : k0_pay6 x w s (ix2 0 o) = (s (ix2 0 o) + ∑ r : Fin 2048, k0_pay1 x w (ix2 r o) : EReal) := by
  pointwise [k0_pay6]
/-- A block's column sums of squares are added. -/
theorem pay7_apply (o : Fin 512) : k0_pay7 x w s (ix2 0 o) = (s (ix2 0 o) + ∑ r : Fin 2048, k0_pay1 x w (ix2 r o) * k0_pay1 x w (ix2 r o) : EReal) := by
  pointwise [k0_pay7]
/-- The stored block is the product. -/
theorem pay8_apply (r : Fin 2048) (o : Fin 512) : k0_pay8 x w (ix3 0 r o) = k0_pay1 x w (ix2 r o) := by
  pointwise [k0_pay8]
/-- The row of sums is stored as it is. -/
theorem pay9_apply (t : FVec Ideal S1x512 .f32) (o : Fin 512) : k0_pay9 t (ix2 0 o) = t (ix2 0 o) := by
  pointwise [k0_pay9]
/-- The second layer's sums of squares. -/
theorem pay10_apply (y : FVec Ideal S2048x512 .f32) (o : Fin 512) : k0_pay10 y s (ix2 0 o) = (s (ix2 0 o) + ∑ r : Fin 2048, y (ix2 r o) * y (ix2 r o) : EReal) := by
  pointwise [k0_pay10]
/-- The second layer's block is stored as it is. -/
theorem pay11_apply (y : FVec Ideal S2048x512 .f32) (r : Fin 2048) (o : Fin 512) : k0_pay11 y (ix3 0 r o) = y (ix2 r o) := by
  pointwise [k0_pay11]
/-- The gated block. -/
theorem pay12_apply (h : FVec Ideal S2048x512 .f32) (p q c : Elt Ideal .f32) (m : FVec Ideal S2048x1 .f32) (r : Fin 2048) (o : Fin 512) :
    k0_pay12 h p q c m (ix2 r o) = kgate (fun k => h (ix2 r k)) p q c (m (ix2 r 0)) (h (ix2 r o)) := by
  unfold kgate
  pointwise [k0_pay12]
/-- The gated block's column maxima. -/
theorem pay13_apply (h : FVec Ideal S2048x512 .f32) (p q c : Elt Ideal .f32) (m : FVec Ideal S2048x1 .f32) (o : Fin 512) :
    k0_pay13 h p q c m (ix2 0 o) = (Finset.fold max (Ideal.ofBits FTy.f32 0xFF800000#32) (fun r : Fin 2048 => k0_pay12 h p q c m (ix2 r o)) Finset.univ : EReal) := by
  pointwise [k0_pay13]
/-- The gated block's column means. -/
theorem pay14_apply (h : FVec Ideal S2048x512 .f32) (p q c : Elt Ideal .f32) (m : FVec Ideal S2048x1 .f32) (o : Fin 512) :
    k0_pay14 h p q c m (ix2 0 o) = ((∑ r : Fin 2048, k0_pay12 h p q c m (ix2 r o)) * Ideal.ofBits FTy.f32 0x3A000000#32 : EReal) := by
  pointwise [k0_pay14]
/-- The last product. -/
theorem pay15_apply (t : Vec Ideal S16x1024 .f32) (wo : Vec Ideal S1024x64 .f32) (bo : Vec Ideal S1x64 .f32) (i : Fin 16) (o : Fin 64) :
    k0_pay15 t wo bo (ix2 i o) = (∑ k : Fin 1024, t (ix2 i k) * wo (ix2 k o) + bo (ix2 0 o) : EReal) := by
  pointwise [k0_pay15]
/-- The normalized block of the third phase. -/
theorem pay18_apply (r : Fin 2048) (o : Fin 512) : k0_pay18 a b g e z (ix2 r o) = knorm (a (ix2 0 o)) (b (ix2 0 o)) (g (ix2 0 o)) (e (ix2 0 o)) (z (ix3 0 r o)) := by
  unfold knorm
  pointwise [k0_pay18]
/-- The second layer's product. -/
theorem pay16_apply (r : Fin 2048) (o : Fin 512) : k0_pay16 a b g e z w (ix2 r o) = ∑ k : Fin 512, knorm (a (ix2 0 k)) (b (ix2 0 k)) (g (ix2 0 k)) (e (ix2 0 k)) (z (ix3 0 r k)) * w (ix2 k o) := by
  unfold knorm
  pointwise [k0_pay16]
/-- The second layer's column sums. -/
theorem pay17_apply (o : Fin 512) : k0_pay17 a b g e z w s (ix2 0 o) = (s (ix2 0 o) + ∑ r : Fin 2048, k0_pay16 a b g e z w (ix2 r o) : EReal) := by
  pointwise [k0_pay17]
/-- The mean of a row. -/
theorem pay19_apply (r : Fin 2048) : k0_pay19 a b g e z (ix2 r 0) = Ideal.div (∑ k : Fin 512, k0_pay18 a b g e z (ix2 r k)) (Ideal.ofBits FTy.f32 0x44000000#32) := by
  pointwise [k0_pay19]

end Cert.KernelIdeal.Body
-- ==== Proof.RefRead.lean ====
module

public import proofs.«01_k».proof.Proof.Gen.ReferenceIdeal.Run
public import proofs.«01_k».proof.Proof.PointMath
public import Idealize.ShloMosaic.Lib.Tactic.CleanTypes

@[expose] public section

set_option maxRecDepth 16384

noncomputable section

namespace Cert.ReferenceIdeal.Value

open Cert.ReferenceIdeal Cert.ReferenceIdeal.Gen
open Idealize.ShloMosaic Idealize.ShloMosaic.StableHlo
open Cert.PointMath (rnorm rgate)

/-- 32768 is positive. -/
theorem n_pos : (0 : EReal) < Ideal.ofBits FTy.f32 0x47000000#32 := by
  rw [PointMath.n_eq]; exact_mod_cast (by norm_num : (0 : ℝ) < 32768)

/-- The maxima over the members of each segment. -/
def poolMax (b : IVec S16x32768 1) (h : FVec Ideal S32768x512 .f32) : FVec Ideal S16x512 .f32 :=
  Host.reduce FloatOps.maximumf (select (broadcastInDim S16x32768x512 ![0, 1, 2] bcast_S16x32768x1_S16x32768x512_0_1_2 (broadcastInDim S16x32768x1 ![0, 1] bcast_S16x32768_S16x32768x1_0_1 b)) (broadcastInDim S16x32768x512 ![0, 1, 2] bcast_S1x32768x512_S16x32768x512_0_1_2 (broadcastInDim S1x32768x512 ![1, 2] bcast_S32768x512_S1x32768x512_1_2 h)) (broadcastInDim S16x32768x512 ![] bcast_S_S16x32768x512 (constant S_ .f32 0xFF800000#32))) (constant S_ .f32 0xFF800000#32) reducesTo_S16x32768x512_S16x512_d1 h_S_

/-- The number of members of each segment. -/
def poolCount (b : IVec S16x32768 1) : FVec Ideal S16 .f32 :=
  Host.reduceAdd (select b (broadcastInDim S16x32768 ![] bcast_S_S16x32768 (constant S_ .f32 0x3F800000#32)) (broadcastInDim S16x32768 ![] bcast_S_S16x32768 (constant S_ .f32 0x00000000#32))) (constant S_ .f32 0x00000000#32) reducesTo_S16x32768_S16_d1 h_S_

/-- The sums over the members of each segment. -/
def poolSum (b : IVec S16x32768 1) (h : FVec Ideal S32768x512 .f32) : FVec Ideal S16x512 .f32 :=
  Host.reduceAdd (select (broadcastInDim S16x32768x512 ![0, 1, 2] bcast_S16x32768x1_S16x32768x512_0_1_2 (broadcastInDim S16x32768x1 ![0, 1] bcast_S16x32768_S16x32768x1_0_1 b)) (broadcastInDim S16x32768x512 ![0, 1, 2] bcast_S1x32768x512_S16x32768x512_0_1_2 (broadcastInDim S1x32768x512 ![1, 2] bcast_S32768x512_S1x32768x512_1_2 h)) (broadcastInDim S16x32768x512 ![] bcast_S_S16x32768x512 (constant S_ .f32 0x00000000#32))) (constant S_ .f32 0x00000000#32) reducesTo_S16x32768x512_S16x512_d1 h_S_

/-- The means over the members of each segment. -/
def poolMean (t : FVec Ideal S16x512 .f32) (n : FVec Ideal S16 .f32) : FVec Ideal S16x512 .f32 :=
  Host.divf t (broadcastInDim S16x512 ![0, 1] bcast_S16x1_S16x512_0_1 (maximumf (broadcastInDim S16x1 ![0] bcast_S16_S16x1_0 n) (broadcastInDim S16x1 ![] bcast_S_S16x1 (constant S_ .f32 0x3F800000#32))))

/-- The last layer. -/
def lastLayer (u v : FVec Ideal S16x512 .f32) (w : FVec Ideal S64x1024 .f32) (b : FVec Ideal S64 .f32) : FVec Ideal S16x64 .f32 :=
  addf (Host.dotGeneral dot_S16x1024_S1024x64_S16x64_1_0_0_1_n_n none (concatenate S16x1024 1 [⟨S16x512, u⟩, ⟨S16x512, v⟩] concatenates_S16x512_S16x512_S16x1024_d1) (transpose S1024x64 [1, 0] w transposes_S64x1024_S1024x64_1_0)) (broadcastInDim S16x64 ![0, 1] bcast_S1x64_S16x64_0_1 (broadcastInDim S1x64 ![1] bcast_S64_S1x64_1 b))

/-- A segment's maximum at a column. -/
theorem poolMax_apply (b : IVec S16x32768 1) (h : FVec Ideal S32768x512 .f32) (i : Fin 16) (k : Fin 512) : poolMax b h (ix2 i k) =
    Finset.fold max (Ideal.ofBits FTy.f32 0xFF800000#32) (fun r : Fin 32768 => Scalar.select (b (ix2 i r)) (h (ix2 r k)) (Ideal.ofBits FTy.f32 0xFF800000#32)) Finset.univ := by
  pointwise [poolMax]
/-- A segment's sum at a column. -/
theorem poolSum_apply (b : IVec S16x32768 1) (h : FVec Ideal S32768x512 .f32) (i : Fin 16) (k : Fin 512) : poolSum b h (ix2 i k) =
    (∑ r : Fin 32768, Scalar.select (b (ix2 i r)) (h (ix2 r k)) 0 : EReal) := by
  pointwise [poolSum]
/-- A segment's number of members. -/
theorem poolCount_apply (b : IVec S16x32768 1) (i : Fin 16) : poolCount b (ix1 i) =
    (∑ r : Fin 32768, Scalar.select (b (ix2 i r)) 1 0 : EReal) := by
  pointwise [poolCount]
/-- A segment's mean at a column. -/
theorem poolMean_apply (t : FVec Ideal S16x512 .f32) (n : FVec Ideal S16 .f32) (i : Fin 16) (k : Fin 512) : poolMean t n (ix2 i k) =
    Ideal.div (t (ix2 i k)) (max (n (ix1 i)) 1) := by
  pointwise [poolMean]
/-- The last layer at a place. -/
theorem lastLayer_apply (u v : FVec Ideal S16x512 .f32) (w : FVec Ideal S64x1024 .f32) (b : FVec Ideal S64 .f32) (i : Fin 16) (o : Fin 64) : lastLayer u v w b (ix2 i o) =
    ((∑ k : Fin 512, u (ix2 i k) * w (ix2 o ⟨k.val, by have := k.isLt; omega⟩)) + (∑ k : Fin 512, v (ix2 i k) * w (ix2 o ⟨512 + k.val, by have := k.isLt; omega⟩)) + b (ix1 o) : EReal) := by
  pointwise [lastLayer]

variable (V : Valuation τ sig (Elt Ideal))

/-- An argument: the points. -/
def feat : FVec Ideal S32768x512 .f32 := V (Proc.devRef .tc main_arg0)
/-- An argument: the first weights. -/
def W1 : FVec Ideal S512x512 .f32 := V (Proc.devRef .tc main_arg2)
/-- An argument: the first bias. -/
def b1 : FVec Ideal S512 .f32 := V (Proc.devRef .tc main_arg3)
/-- An argument: the first scale. -/
def g1 : FVec Ideal S512 .f32 := V (Proc.devRef .tc main_arg4)
/-- An argument: the first shift. -/
def e1 : FVec Ideal S512 .f32 := V (Proc.devRef .tc main_arg5)
/-- An argument: the second weights. -/
def W2 : FVec Ideal S512x512 .f32 := V (Proc.devRef .tc main_arg6)
/-- An argument: the second bias. -/
def b2 : FVec Ideal S512 .f32 := V (Proc.devRef .tc main_arg7)
/-- An argument: the second scale. -/
def g2 : FVec Ideal S512 .f32 := V (Proc.devRef .tc main_arg8)
/-- An argument: the second shift. -/
def e2 : FVec Ideal S512 .f32 := V (Proc.devRef .tc main_arg9)
/-- An argument: the gate's weights. -/
def Wa : FVec Ideal S1x2 .f32 := V (Proc.devRef .tc main_arg10)
/-- An argument: the gate's bias. -/
def ba : FVec Ideal S1 .f32 := V (Proc.devRef .tc main_arg11)
/-- An argument: the last weights. -/
def Wo : FVec Ideal S64x1024 .f32 := V (Proc.devRef .tc main_arg12)
/-- An argument: the last bias. -/
def bo : FVec Ideal S64 .f32 := V (Proc.devRef .tc main_arg13)
/-- An argument: the segments' ends. -/
def offs : IVec S16 32 := V (Proc.devRef .tc main_arg1)
/-- The first layer before normalization. -/
def y1 : FVec Ideal S32768x512 .f32 := res_main_v4 V
/-- The second layer before normalization. -/
def y2 : FVec Ideal S32768x512 .f32 := res_main_v29 V
/-- The second layer. -/
def h2 : FVec Ideal S32768x512 .f32 := res_main_v49 V
/-- The gated points. -/
def hh : FVec Ideal S32768x512 .f32 := res_main_v69 V
/-- Which points belong to which segment. -/
def mem : IVec S16x32768 1 := res_main_v83 V

/-- The first layer before normalization: the product and its bias. -/
theorem y1_apply (r : Fin 32768) (o : Fin 512) : y1 V (ix2 r o) =
    ((∑ k : Fin 512, feat V (ix2 r k) * W1 V (ix2 o k)) + b1 V (ix1 o) : EReal) := by
  unfold y1 res_main_v4 feat W1 b1
  clean_types
  pointwise
/-- The first layer's deviations. -/
theorem c5_apply (r : Fin 32768) (o : Fin 512) : (res_main_call0_v5 V (ix2 r o) : EReal) =
    (y1 V (ix2 r o) - Ideal.div (∑ x : Fin 32768, y1 V (ix2 x o)) (Ideal.ofBits FTy.f32 0x47000000#32) : EReal) := by
  unfold res_main_call0_v5 y1
  clean_types
  pointwise
/-- The number of rows, from which nothing is taken. -/
theorem c8_apply : (res_main_call0_v8 V ix0 : EReal) = (Ideal.ofBits FTy.f32 0x47000000#32 : EReal) := by
  unfold res_main_call0_v8
  clean_types
  pointwise
  show (Ideal.ofBits FTy.f32 0x47000000#32 - (((0#32).toInt : ℝ) : EReal) : EReal) = _
  simp
/-- The second layer's deviations. -/
theorem d5_apply (r : Fin 32768) (o : Fin 512) : (res_main_call1_v5 V (ix2 r o) : EReal) =
    (y2 V (ix2 r o) - Ideal.div (∑ x : Fin 32768, y2 V (ix2 x o)) (Ideal.ofBits FTy.f32 0x47000000#32) : EReal) := by
  unfold res_main_call1_v5 y2
  clean_types
  pointwise
/-- The number of rows, from which nothing is taken. -/
theorem d8_apply : (res_main_call1_v8 V ix0 : EReal) = (Ideal.ofBits FTy.f32 0x47000000#32 : EReal) := c8_apply V

/-- The second layer before normalization. -/
theorem y2_apply (r : Fin 32768) (o : Fin 512) : y2 V (ix2 r o) =
    ((∑ k : Fin 512, rnorm (fun x => y1 V (ix2 x k)) (g1 V (ix1 k)) (e1 V (ix1 k)) r * W2 V (ix2 o k)) + b2 V (ix1 o) : EReal) := by
  unfold y2 res_main_v29
  clean_types
  pointwise
  rw [c8_apply]
  simp only [n_pos, if_true, c5_apply]
  rfl
/-- The second layer. -/
theorem h2_apply (r : Fin 32768) (o : Fin 512) : h2 V (ix2 r o) =
    rnorm (fun x => y2 V (ix2 x o)) (g2 V (ix1 o)) (e2 V (ix1 o)) r := by
  unfold h2 res_main_v49
  clean_types
  pointwise
  rw [d8_apply, if_pos n_pos]
  simp only [d5_apply]
  rfl
/-- The gated points. -/
theorem hh_apply (r : Fin 32768) (o : Fin 512) : hh V (ix2 r o) =
    rgate (fun x => h2 V (ix2 r x)) (Wa V (ix2 0 0)) (Wa V (ix2 0 1)) (ba V (ix1 0)) (h2 V (ix2 r o)) := by
  unfold hh res_main_v69
  clean_types
  pointwise
  simp only [Finset.univ_unique, Finset.sum_singleton]
  rfl
/-- Which points belong to which segment. -/
theorem mem_apply (i : Fin 16) (r : Fin 32768) : mem V (ix2 i r) = IntOp.cmpi CmpIPredicate.eq (BitVec.ofNat 32 i.val)
      (Finset.fold IntOp.addi (0#32) (fun x : Fin 16 => BitVec.setWidth 32 (IntOp.cmpi CmpIPredicate.sle (offs V (ix1 x)) (BitVec.ofNat 32 r.val))) Finset.univ) := by
  unfold mem res_main_v83
  clean_types
  pointwise
  rfl
/-- What the reference ends with. -/
theorem out_eq : (val3 V (Proc.devRef .tc main_v105) : FVec Ideal S16x64 .f32) =
    lastLayer (poolMax (mem V) (hh V)) (poolMean (poolSum (mem V) (hh V)) (poolCount (mem V))) (Wo V) (bo V) :=
  by
  rw [val3_main_v105]
  unfold lastLayer
  refine congrArg₂ addf (congrArg₂ (Host.dotGeneral dot_S16x1024_S1024x64_S16x64_1_0_0_1_n_n none) ?_ rfl) rfl
  refine congrArg₂ (fun u v : FVec Ideal S16x512 .f32 => concatenate S16x1024 1 [⟨S16x512, u⟩, ⟨S16x512, v⟩] concatenates_S16x512_S16x512_S16x1024_d1) ?_ ?_
  · rfl
  · refine congrArg₂ poolMean ?_ ?_
    · unfold poolSum
      rfl
    · exact congrArg (fun z : FVec Ideal S16x32768 .f32 => Host.reduceAdd z (constant S_ .f32 0x00000000#32) reducesTo_S16x32768_S16_d1 h_S_) (id_eq _)

end Cert.ReferenceIdeal.Value
-- ==== Proof.Equation.lean ====
module

public import proofs.«01_k».proof.Proof.KernelPay
public import proofs.«01_k».proof.Proof.KernelIdealSpec
public import proofs.«01_k».proof.Proof.RefRead

@[expose] public section

set_option maxRecDepth 16384

noncomputable section

namespace Cert.KernelIdeal.Body

open Cert.KernelIdeal Cert.KernelIdeal.Gen
open Idealize.ShloMosaic
open Cert.PointMath

/-- A sum kept block by block ends as the sum over all points. -/
theorem block_rec (S : ℕ → EReal) (f : Fin 32768 → EReal) (h0 : S 0 = 0) (hs : ∀ j : Fin 16, S (j.val + 1) = S j.val + ∑ r, f (pnt j r)) : S 16 = ∑ i, f i := by
  have key : ∀ n, (h : n ≤ 16) → S n = ∑ j : Fin n, ∑ r, f (pnt (Fin.castLE h j) r) := by
    intro n
    induction n with
    | zero => intro _; rw [h0]; simp
    | succ n ih =>
      intro h
      rw [Fin.sum_univ_castSucc]
      have e := hs ⟨n, h⟩
      rw [show S (n + 1) = S n + ∑ r, f (pnt ⟨n, h⟩ r) from e, ih (by omega)]
      rfl
  rw [sum_blocks, key 16 le_rfl]
  rfl

/-- The operands of the kernel and the arguments of the reference hold the same values; those the first layers
    read are reals, and the segments are the equal ones. -/
structure Link (I : Ins Ideal) (V : Valuation Cert.ReferenceIdeal.τ Cert.ReferenceIdeal.sig (Elt Ideal))
    (f : Fin 32768 → Fin 512 → ℝ) (w1 w2 : Fin 512 → Fin 512 → ℝ) (b1 g1 e1 b2 g2 : Fin 512 → ℝ) : Prop where
  kx : ∀ (j : Fin 16) (r : Fin 2048) (k : Fin 512), I.x j.val (ix2 r k) = (f (pnt j r) k : EReal)
  kw1 : ∀ k o : Fin 512, I.w1 (ix2 k o) = (w1 o k : EReal)
  kw2 : ∀ k o : Fin 512, I.w2 (ix2 k o) = (w2 o k : EReal)
  kg1 : ∀ k : Fin 512, I.g1 (ix2 0 k) = (g1 k : EReal)
  ke1 : ∀ k : Fin 512, I.b1 (ix2 0 k) = (e1 k : EReal)
  kg2 : ∀ k : Fin 512, I.g2 (ix2 0 k) = (g2 k : EReal)
  ke2 : ∀ k : Fin 512, I.b2 (ix2 0 k) = ReferenceIdeal.Value.e2 V (ix1 k)
  kq0 : I.q (wcol 0) = ReferenceIdeal.Value.Wa V (ix2 0 0)
  kq1 : I.q (wcol 1) = ReferenceIdeal.Value.Wa V (ix2 0 1)
  kq2 : I.q (wcol 2) = ReferenceIdeal.Value.ba V (ix1 0)
  kwo : ∀ (k : Fin 1024) (o : Fin 64), I.wo (ix2 k o) = ReferenceIdeal.Value.Wo V (ix2 o k)
  kbo : ∀ o : Fin 64, I.bo (ix2 0 o) = ReferenceIdeal.Value.bo V (ix1 o)
  rx : ∀ r k, ReferenceIdeal.Value.feat V (ix2 r k) = (f r k : EReal)
  rw1 : ∀ o k, ReferenceIdeal.Value.W1 V (ix2 o k) = (w1 o k : EReal)
  rw2 : ∀ o k, ReferenceIdeal.Value.W2 V (ix2 o k) = (w2 o k : EReal)
  rb1 : ∀ k, ReferenceIdeal.Value.b1 V (ix1 k) = (b1 k : EReal)
  rg1 : ∀ k, ReferenceIdeal.Value.g1 V (ix1 k) = (g1 k : EReal)
  re1 : ∀ k, ReferenceIdeal.Value.e1 V (ix1 k) = (e1 k : EReal)
  rb2 : ∀ k, ReferenceIdeal.Value.b2 V (ix1 k) = (b2 k : EReal)
  rg2 : ∀ k, ReferenceIdeal.Value.g2 V (ix1 k) = (g2 k : EReal)
  ro : ∀ x : Fin 16, ReferenceIdeal.Value.offs V (ix1 x) = BitVec.ofNat 32 (2048 * (x.val + 1))

variable {I : Ins Ideal} {V : Valuation Cert.ReferenceIdeal.τ Cert.ReferenceIdeal.sig (Elt Ideal)}
variable {f : Fin 32768 → Fin 512 → ℝ} {w1 w2 : Fin 512 → Fin 512 → ℝ} {b1 g1 e1 b2 g2 : Fin 512 → ℝ}

/-- A product of a real row and a real column is real. -/
theorem dot_real (a b : Fin 512 → ℝ) : ∑ k, (a k : EReal) * (b k : EReal) = ((∑ k, a k * b k : ℝ) : EReal) := by
  rw [coe_sum]; exact Finset.sum_congr rfl fun k _ => (EReal.coe_mul _ _).symm

/-- The first product at a point. -/
def U1 (f : Fin 32768 → Fin 512 → ℝ) (w1 : Fin 512 → Fin 512 → ℝ) (i : Fin 32768) (o : Fin 512) : ℝ := ∑ k, f i k * w1 o k

variable (L : Link I V f w1 w2 b1 g1 e1 b2 g2)
include L

/-- The kernel's first product. -/
theorem x1_eq (j : Fin 16) (r : Fin 2048) (o : Fin 512) : k0_pay1 (I.x j.val) I.w1 (ix2 r o) = (U1 f w1 (pnt j r) o : EReal) := by
  rw [pay1_apply, U1, ← dot_real]
  exact Finset.sum_congr rfl fun k _ => by rw [L.kx, L.kw1]

/-- The first layer's column sums. -/
theorem s1a_eq (o : Fin 512) : S1a I 16 (ix2 0 o) = ∑ i, (U1 f w1 i o : EReal) := by
  refine block_rec (fun n => S1a I n (ix2 0 o)) _ (pay2_apply o) fun j => ?_
  show k0_pay6 (I.x j.val) I.w1 (S1a I j.val) (ix2 0 o) = _
  rw [pay6_apply]
  exact congrArg _ (Finset.sum_congr rfl fun r _ => x1_eq L j r o)

/-- The first layer's column sums of squares. -/
theorem s1b_eq (o : Fin 512) : S1b I 16 (ix2 0 o) = ∑ i, (U1 f w1 i o : EReal) * (U1 f w1 i o : EReal) := by
  refine block_rec (fun n => S1b I n (ix2 0 o)) (fun i => (U1 f w1 i o : EReal) * (U1 f w1 i o : EReal)) (pay3_apply o) fun j => ?_
  show k0_pay7 (I.x j.val) I.w1 (S1b I j.val) (ix2 0 o) = _
  rw [pay7_apply]
  exact congrArg _ (Finset.sum_congr rfl fun r _ => by rw [x1_eq L j r o])

/-- The first layer of both programs: real values. -/
theorem layer1 : ∃ t : Fin 32768 → Fin 512 → ℝ,
    (∀ (j : Fin 16) r k, knorm (S1a I 16 (ix2 0 k)) (S1b I 16 (ix2 0 k)) (I.g1 (ix2 0 k)) (I.b1 (ix2 0 k)) (X1 I j.val (ix3 0 r k)) = (t (pnt j r) k : EReal)) ∧
    (∀ i k, rnorm (fun x => ReferenceIdeal.Value.y1 V (ix2 x k)) (ReferenceIdeal.Value.g1 V (ix1 k)) (ReferenceIdeal.Value.e1 V (ix1 k)) i = (t i k : EReal)) := by
  choose t ht using fun i k => norm_real (fun i => U1 f w1 i k) (g1 k) (e1 k) i
  refine ⟨t, fun j r k => ?_, fun i k => ?_⟩
  · rw [s1a_eq L, s1b_eq L, L.kg1, L.ke1, show X1 I j.val (ix3 0 r k) = (U1 f w1 (pnt j r) k : EReal) from (pay8_apply _ _ _ _).trans (x1_eq L j r k)]
    exact ht (pnt j r) k
  · have hy : (fun x => ReferenceIdeal.Value.y1 V (ix2 x k)) = fun x => ((U1 f w1 x k : EReal) + (b1 k : EReal)) := funext fun x => by
      rw [ReferenceIdeal.Value.y1_apply, L.rb1, U1, ← dot_real]
      exact congrArg (fun z : EReal => z + (b1 k : EReal)) (Finset.sum_congr rfl fun q _ => by rw [L.rx, L.rw1])
    rw [hy, L.rg1, L.re1, ← norm_eq (fun i => U1 f w1 i k)]
    exact ht i k

/-- The second layer of both programs. -/
theorem layer2 : ∃ h : Fin 32768 → Fin 512 → EReal,
    (∀ (j : Fin 16) r k, k0_pay18 (S2a I 16) (S2b I 16) I.g2 I.b2 (X2 I j.val) (ix2 r k) = h (pnt j r) k) ∧
    (∀ i k, ReferenceIdeal.Value.h2 V (ix2 i k) = h i k) := by
  obtain ⟨t, hk, hr⟩ := layer1 L
  have hz : ∀ (j : Fin 16) (r : Fin 2048) (o : Fin 512), k0_pay16 (S1a I 16) (S1b I 16) I.g1 I.b1 (X1 I j.val) I.w2 (ix2 r o) = (U1 t w2 (pnt j r) o : EReal) := fun j r o => by
    rw [pay16_apply, U1, ← dot_real]
    exact Finset.sum_congr rfl fun k _ => by rw [hk, L.kw2]
  have ha : ∀ o : Fin 512, S2a I 16 (ix2 0 o) = ∑ i, (U1 t w2 i o : EReal) := fun o => by
    refine block_rec (fun n => S2a I n (ix2 0 o)) _ (pay4_apply o) fun j => ?_
    show k0_pay9 (k0_pay17 (S1a I 16) (S1b I 16) I.g1 I.b1 (X1 I j.val) I.w2 (S2a I j.val)) (ix2 0 o) = _
    rw [pay9_apply, pay17_apply]
    exact congrArg _ (Finset.sum_congr rfl fun r _ => hz j r o)
  have hb : ∀ o : Fin 512, S2b I 16 (ix2 0 o) = ∑ i, (U1 t w2 i o : EReal) * (U1 t w2 i o : EReal) := fun o => by
    refine block_rec (fun n => S2b I n (ix2 0 o)) (fun i => (U1 t w2 i o : EReal) * (U1 t w2 i o : EReal)) (pay5_apply o) fun j => ?_
    show k0_pay10 (k0_pay16 (S1a I 16) (S1b I 16) I.g1 I.b1 (X1 I j.val) I.w2) (S2b I j.val) (ix2 0 o) = _
    rw [pay10_apply]
    exact congrArg _ (Finset.sum_congr rfl fun r _ => by rw [hz j r o])
  refine ⟨fun i k => ReferenceIdeal.Value.h2 V (ix2 i k), fun j r k => ?_, fun i k => rfl⟩
  have hy : (fun x => ReferenceIdeal.Value.y2 V (ix2 x k)) = fun x => ((U1 t w2 x k : EReal) + (b2 k : EReal)) := funext fun x => by
    rw [ReferenceIdeal.Value.y2_apply, L.rb2, U1, ← dot_real]
    exact congrArg (fun z : EReal => z + (b2 k : EReal)) (Finset.sum_congr rfl fun q _ => by rw [hr, L.rw2])
  rw [pay18_apply, ha, hb, L.kg2, L.ke2, show X2 I j.val (ix3 0 r k) = (U1 t w2 (pnt j r) k : EReal) from (pay11_apply _ _ _).trans (hz j r k),
    show (fun i k => ReferenceIdeal.Value.h2 V (ix2 i k)) (pnt j r) k = ReferenceIdeal.Value.h2 V (ix2 (pnt j r) k) from rfl, ReferenceIdeal.Value.h2_apply, hy, L.rg2]
  exact norm_eq (fun i => U1 t w2 i k) (b2 k) (g2 k) _ (pnt j r)

/-- The gated points of both programs. -/
theorem gated (j : Fin 16) (r : Fin 2048) (k : Fin 512) :
    k0_pay12 (k0_pay18 (S2a I 16) (S2b I 16) I.g2 I.b2 (X2 I j.val)) (I.q (wcol 0)) (I.q (wcol 1)) (I.q (wcol 2)) (k0_pay19 (S2a I 16) (S2b I 16) I.g2 I.b2 (X2 I j.val)) (ix2 r k)
      = ReferenceIdeal.Value.hh V (ix2 (pnt j r) k) := by
  obtain ⟨h, hk, hr⟩ := layer2 L
  rw [pay12_apply, pay19_apply, ReferenceIdeal.Value.hh_apply, ← gate_eq, L.kq0, L.kq1, L.kq2]
  simp only [hk, hr]

/-- Which points belong to which segment. -/
theorem mem_iff (i j : Fin 16) (r : Fin 2048) : ReferenceIdeal.Value.mem V (ix2 i (pnt j r)) = 1#1 ↔ j = i := by
  rw [ReferenceIdeal.Value.mem_apply]
  exact member (fun x => ReferenceIdeal.Value.offs V (ix1 x)) L.ro i j r

/-- The maxima of both programs. -/
theorem max_eq (i : Fin 16) (k : Fin 512) : Rmax I i.val (ix2 0 k)
    = ReferenceIdeal.Value.poolMax (ReferenceIdeal.Value.mem V) (ReferenceIdeal.Value.hh V) (ix2 i k) := by
  rw [ReferenceIdeal.Value.poolMax_apply, ninf_eq]
  rw [max_member (fun r => ReferenceIdeal.Value.mem V (ix2 i r)) i (fun j r => mem_iff L i j r) (fun r => ReferenceIdeal.Value.hh V (ix2 r k))]
  refine (pay13_apply _ _ _ _ _ k).trans ?_
  rw [ninf_eq]
  exact congrArg (fun g : Fin 2048 → EReal => Finset.fold max ⊥ g Finset.univ) (funext fun r => gated L i r k)

/-- The means of both programs. -/
theorem mean_eq' (i : Fin 16) (k : Fin 512) : Rmean I i.val (ix2 0 k)
    = ReferenceIdeal.Value.poolMean (ReferenceIdeal.Value.poolSum (ReferenceIdeal.Value.mem V) (ReferenceIdeal.Value.hh V)) (ReferenceIdeal.Value.poolCount (ReferenceIdeal.Value.mem V)) (ix2 i k) := by
  rw [ReferenceIdeal.Value.poolMean_apply, ReferenceIdeal.Value.poolSum_apply, ReferenceIdeal.Value.poolCount_apply]
  rw [sum_member (fun r => ReferenceIdeal.Value.mem V (ix2 i r)) i (fun j r => mem_iff L i j r) (fun r => ReferenceIdeal.Value.hh V (ix2 r k)),
    sum_member (fun r => ReferenceIdeal.Value.mem V (ix2 i r)) i (fun j r => mem_iff L i j r) (fun _ => 1), mean_eq]
  refine (pay14_apply _ _ _ _ _ k).trans ?_
  exact congrArg (fun z : EReal => z * Ideal.ofBits FTy.f32 0x3A000000#32) (Finset.sum_congr rfl fun r _ => gated L i r k)

/-- A place of a one-row array. -/
theorem rcol_eq (k : Fin 512) : rcol k = ix2 0 k := funext fun a => match a with | ⟨0, _⟩ => rfl | ⟨1, _⟩ => rfl

/-- The kernel's result is the reference's. -/
theorem result_eq : OUT I = (ReferenceIdeal.Value.val3 V (Proc.devRef .tc ReferenceIdeal.main_v105) : FVec Ideal S16x64 .f32) := by
  rw [ReferenceIdeal.Value.out_eq]
  funext p
  obtain ⟨i, o, rfl⟩ : ∃ (i : Fin 16) (o : Fin 64), p = ix2 i o := ⟨p 0, p 1, funext fun a => match a with | ⟨0, _⟩ => rfl | ⟨1, _⟩ => rfl⟩
  rw [ReferenceIdeal.Value.lastLayer_apply]
  refine (pay15_apply _ _ _ i o).trans ?_
  rw [L.kbo]
  refine congrArg (fun z : EReal => z + ReferenceIdeal.Value.bo V (ix1 o)) ?_
  rw [Fin.sum_univ_two_halves 512 512 rfl]
  refine congrArg₂ (fun u v : EReal => u + v) (Finset.sum_congr rfl fun k _ => ?_) (Finset.sum_congr rfl fun k _ => ?_)
  · rw [L.kwo]
    refine congrArg (fun z : EReal => z * ReferenceIdeal.Value.Wo V (ix2 o ⟨k.val, by have := k.isLt; omega⟩)) ?_
    refine (?_ : SEG I (ix2 i ⟨k.val, by have := k.isLt; omega⟩) = Rmax I i.val (rcol k)).trans ?_
    · exact dif_pos k.isLt
    · rw [rcol_eq L]; exact max_eq L i k
  · rw [L.kwo]
    refine congrArg (fun z : EReal => z * ReferenceIdeal.Value.Wo V (ix2 o ⟨512 + k.val, by have := k.isLt; omega⟩)) ?_
    refine (?_ : SEG I (ix2 i ⟨512 + k.val, by have := k.isLt; omega⟩) = Rmean I i.val (rcol k)).trans ?_
    · refine (dif_neg (show ¬ 512 + k.val < 512 by omega)).trans ?_
      exact congrArg (fun z : Fin 512 => Rmean I i.val (rcol z)) (Fin.ext (show 512 + k.val - 512 = k.val by omega))
    · rw [rcol_eq L]; exact mean_eq' L i k

end Cert.KernelIdeal.Body

end
-- ==== Proof.KernelIns.lean ====
module

public import proofs.«01_k».proof.Proof.KernelIdealFrame
public import Idealize.ShloMosaic.Lib.Pointwise
public import Idealize.ShloMosaic.Lib.Tactic.CleanTypes
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.StableHlo
open Idealize.SL Idealize.SL.RA Idealize.SL.BI

variable (m : (ℓ : Loc nD τ sig) → Buf (Elt Ideal) ℓ) (c : Dev nD)

/-- An argument of the kernel: the points. -/
def feat : FVec Ideal S32768x512 .f32 := m ((c : Thread nD τ).loc main_arg0)
/-- An argument of the kernel: the first weights. -/
def W1 : FVec Ideal S512x512 .f32 := m ((c : Thread nD τ).loc main_arg2)
/-- An argument of the kernel: the first scale. -/
def g1 : FVec Ideal S512 .f32 := m ((c : Thread nD τ).loc main_arg4)
/-- An argument of the kernel: the first shift. -/
def e1 : FVec Ideal S512 .f32 := m ((c : Thread nD τ).loc main_arg5)
/-- An argument of the kernel: the second weights. -/
def W2 : FVec Ideal S512x512 .f32 := m ((c : Thread nD τ).loc main_arg6)
/-- An argument of the kernel: the second scale. -/
def g2 : FVec Ideal S512 .f32 := m ((c : Thread nD τ).loc main_arg8)
/-- An argument of the kernel: the second shift. -/
def e2 : FVec Ideal S512 .f32 := m ((c : Thread nD τ).loc main_arg9)
/-- An argument of the kernel: the gate's weights. -/
def Wa : FVec Ideal S1x2 .f32 := m ((c : Thread nD τ).loc main_arg10)
/-- An argument of the kernel: the gate's bias. -/
def ba : FVec Ideal S1 .f32 := m ((c : Thread nD τ).loc main_arg11)
/-- An argument of the kernel: the last weights. -/
def Wo : FVec Ideal S64x1024 .f32 := m ((c : Thread nD τ).loc main_arg12)
/-- An argument of the kernel: the last bias. -/
def bo : FVec Ideal S64 .f32 := m ((c : Thread nD τ).loc main_arg13)

/-- The gate's scalars as the region finds them. -/
theorem V_q : (V m c main_v7 : FVec Ideal S1x3 .f32) = shapeCast S1x3 (concatenate S3 0 [⟨S2, shapeCast S2 (Wa m c) shapeCasts_S1x2_S2⟩, ⟨S1, ba m c⟩] concatenates_S2_S1_S3_d0) shapeCasts_S3_S1x3 := by
    show StableHlo.after hostOps0 (fun b => m (c, b)) (Proc.devRef .tc main_v7) = _
    simp only [hostOps0]
    after_results_simp
    rfl

/-- The first weights as the region finds them. -/
theorem V_w1 : (V m c main_v1 : FVec Ideal S512x512 .bf16) = truncf .bf16 (transpose S512x512 [1, 0] (W1 m c) transposes_S512x512_S512x512_1_0) bitsLt_bf16_f32 := by
  show StableHlo.after hostOps0 (fun b => m (c, b)) (Proc.devRef .tc main_v1) = _
  simp only [hostOps0]
  after_results_simp
  rfl

/-- The second weights as the region finds them. -/
theorem V_w2 : (V m c main_v3 : FVec Ideal S512x512 .bf16) = truncf .bf16 (transpose S512x512 [1, 0] (W2 m c) transposes_S512x512_S512x512_1_0) bitsLt_bf16_f32 := by
  show StableHlo.after hostOps0 (fun b => m (c, b)) (Proc.devRef .tc main_v3) = _
  simp only [hostOps0]
  after_results_simp
  rfl

/-- The last weights as the region finds them. -/
theorem V_wo : (V m c main_v4 : FVec Ideal S1024x64 .f32) = transpose S1024x64 [1, 0] (Wo m c) transposes_S64x1024_S1024x64_1_0 := by
  show StableHlo.after hostOps0 (fun b => m (c, b)) (Proc.devRef .tc main_v4) = _
  simp only [hostOps0]
  after_results_simp
  rfl

/-- The first scales as the region finds them. -/
theorem V_g1 : (V m c main_v8 : FVec Ideal S1x512 .f32) = shapeCast S1x512 (g1 m c) shapeCasts_S512_S1x512 := by
  show StableHlo.after hostOps0 (fun b => m (c, b)) (Proc.devRef .tc main_v8) = _
  simp only [hostOps0]
  after_results_simp
  rfl

/-- The first shifts as the region finds them. -/
theorem V_e1 : (V m c main_v9 : FVec Ideal S1x512 .f32) = shapeCast S1x512 (e1 m c) shapeCasts_S512_S1x512 := by
  show StableHlo.after hostOps0 (fun b => m (c, b)) (Proc.devRef .tc main_v9) = _
  simp only [hostOps0]
  after_results_simp
  rfl

/-- The second scales as the region finds them. -/
theorem V_g2 : (V m c main_v10 : FVec Ideal S1x512 .f32) = shapeCast S1x512 (g2 m c) shapeCasts_S512_S1x512 := by
  show StableHlo.after hostOps0 (fun b => m (c, b)) (Proc.devRef .tc main_v10) = _
  simp only [hostOps0]
  after_results_simp
  rfl

/-- The second shifts as the region finds them. -/
theorem V_e2 : (V m c main_v11 : FVec Ideal S1x512 .f32) = shapeCast S1x512 (e2 m c) shapeCasts_S512_S1x512 := by
  show StableHlo.after hostOps0 (fun b => m (c, b)) (Proc.devRef .tc main_v11) = _
  simp only [hostOps0]
  after_results_simp
  rfl

/-- The last biases as the region finds them. -/
theorem V_bo : (V m c main_v12 : FVec Ideal S1x64 .f32) = shapeCast S1x64 (bo m c) shapeCasts_S64_S1x64 := by
  show StableHlo.after hostOps0 (fun b => m (c, b)) (Proc.devRef .tc main_v12) = _
  simp only [hostOps0]
  after_results_simp
  rfl

/-- Where block `j` of the points lies. -/
theorem index0 : ∀ j : Fin 16, win0_0.index (pt j.val) = ![j.val, 0] := by decide +kernel

/-- Block `j` of the points. -/
theorem ins_x_apply (j : Fin 16) (r : Fin 2048) (k : Fin 512) : (ins m c).x j.val (ix2 r k) = feat m c (ix2 ⟨2048 * j.val + r.val, by have := j.isLt; have := r.isLt; omega⟩ k) := by
  show iblk m c 0 (pt j.val) (ix2 r k) = _
  blk_simp [iblk]
  rw [V_main_arg0]
  refine congrArg (feat m c) ?_
  blk_ext [index0 j]

/-- Operand 1 is its whole array. -/
theorem ins_w1_whole : (ins m c).w1 = (V m c main_v1 : FVec Ideal S512x512 .bf16) := by
  funext y
  show iblk m c 1 t0 y = _
  blk_simp [iblk]
  refine congrArg (V m c main_v1) ?_
  blk_ext [(by decide +kernel : win0_1.index t0 = ![0, 0])]

/-- Operand 2 is its whole array. -/
theorem ins_w2_whole : (ins m c).w2 = (V m c main_v3 : FVec Ideal S512x512 .bf16) := by
  funext y
  show iblk m c 2 t0 y = _
  blk_simp [iblk]
  refine congrArg (V m c main_v3) ?_
  blk_ext [(by decide +kernel : win0_2.index t0 = ![0, 0])]

/-- Operand 3 is its whole array. -/
theorem ins_g1_whole : (ins m c).g1 = (V m c main_v8 : FVec Ideal S1x512 .f32) := by
  funext y
  show iblk m c 3 t0 y = _
  blk_simp [iblk]
  refine congrArg (V m c main_v8) ?_
  blk_ext [(by decide +kernel : win0_3.index t0 = ![0, 0])]

/-- Operand 4 is its whole array. -/
theorem ins_b1_whole : (ins m c).b1 = (V m c main_v9 : FVec Ideal S1x512 .f32) := by
  funext y
  show iblk m c 4 t0 y = _
  blk_simp [iblk]
  refine congrArg (V m c main_v9) ?_
  blk_ext [(by decide +kernel : win0_4.index t0 = ![0, 0])]

/-- Operand 5 is its whole array. -/
theorem ins_g2_whole : (ins m c).g2 = (V m c main_v10 : FVec Ideal S1x512 .f32) := by
  funext y
  show iblk m c 5 t0 y = _
  blk_simp [iblk]
  refine congrArg (V m c main_v10) ?_
  blk_ext [(by decide +kernel : win0_5.index t0 = ![0, 0])]

/-- Operand 6 is its whole array. -/
theorem ins_b2_whole : (ins m c).b2 = (V m c main_v11 : FVec Ideal S1x512 .f32) := by
  funext y
  show iblk m c 6 t0 y = _
  blk_simp [iblk]
  refine congrArg (V m c main_v11) ?_
  blk_ext [(by decide +kernel : win0_6.index t0 = ![0, 0])]

/-- Operand 7 is its whole array. -/
theorem ins_q_whole : (ins m c).q = (V m c main_v7 : FVec Ideal S1x3 .f32) := by
  funext y
  show iblk m c 7 t0 y = _
  blk_simp [iblk]
  refine congrArg (V m c main_v7) ?_
  blk_ext [(by decide +kernel : win0_7.index t0 = ![0, 0])]

/-- Operand 8 is its whole array. -/
theorem ins_wo_whole : (ins m c).wo = (V m c main_v4 : FVec Ideal S1024x64 .f32) := by
  funext y
  show iblk m c 8 t0 y = _
  blk_simp [iblk]
  refine congrArg (V m c main_v4) ?_
  blk_ext [(by decide +kernel : win0_8.index t0 = ![0, 0])]

/-- Operand 9 is its whole array. -/
theorem ins_bo_whole : (ins m c).bo = (V m c main_v12 : FVec Ideal S1x64 .f32) := by
  funext y
  show iblk m c 9 t0 y = _
  blk_simp [iblk]
  refine congrArg (V m c main_v12) ?_
  blk_ext [(by decide +kernel : win0_9.index t0 = ![0, 0])]

/-- Operand w1 at a place. -/
theorem ins_w1_apply (k : Fin 512) (o : Fin 512) : (ins m c).w1 (ix2 k o) = W1 m c (ix2 o k) := by
  rw [ins_w1_whole, V_w1]
  pointwise

/-- Operand w2 at a place. -/
theorem ins_w2_apply (k : Fin 512) (o : Fin 512) : (ins m c).w2 (ix2 k o) = W2 m c (ix2 o k) := by
  rw [ins_w2_whole, V_w2]
  pointwise

/-- Operand wo at a place. -/
theorem ins_wo_apply (k : Fin 1024) (o : Fin 64) : (ins m c).wo (ix2 k o) = Wo m c (ix2 o k) := by
  rw [ins_wo_whole, V_wo]
  pointwise

/-- Operand g1 at a place. -/
theorem ins_g1_apply (k : Fin 512) : (ins m c).g1 (ix2 0 k) = g1 m c (ix1 k) := by
  rw [ins_g1_whole, V_g1]
  pointwise

/-- Operand b1 at a place. -/
theorem ins_b1_apply (k : Fin 512) : (ins m c).b1 (ix2 0 k) = e1 m c (ix1 k) := by
  rw [ins_b1_whole, V_e1]
  pointwise

/-- Operand g2 at a place. -/
theorem ins_g2_apply (k : Fin 512) : (ins m c).g2 (ix2 0 k) = g2 m c (ix1 k) := by
  rw [ins_g2_whole, V_g2]
  pointwise

/-- Operand b2 at a place. -/
theorem ins_b2_apply (k : Fin 512) : (ins m c).b2 (ix2 0 k) = e2 m c (ix1 k) := by
  rw [ins_b2_whole, V_e2]
  pointwise

/-- Operand bo at a place. -/
theorem ins_bo_apply (k : Fin 64) : (ins m c).bo (ix2 0 k) = bo m c (ix1 k) := by
  rw [ins_bo_whole, V_bo]
  pointwise

/-- The gate's scalar 0. -/
theorem ins_q0 : (ins m c).q (wcol 0) = Wa m c (ix2 0 0) := by
  rw [show wcol 0 = ix2 0 0 from funext fun a => match a with | ⟨0, _⟩ => rfl | ⟨1, _⟩ => rfl, ins_q_whole, V_q]
  pointwise

/-- The gate's scalar 1. -/
theorem ins_q1 : (ins m c).q (wcol 1) = Wa m c (ix2 0 1) := by
  rw [show wcol 1 = ix2 0 1 from funext fun a => match a with | ⟨0, _⟩ => rfl | ⟨1, _⟩ => rfl, ins_q_whole, V_q]
  pointwise

/-- The gate's scalar 2. -/
theorem ins_q2 : (ins m c).q (wcol 2) = ba m c (ix1 0) := by
  rw [show wcol 2 = ix2 0 2 from funext fun a => match a with | ⟨0, _⟩ => rfl | ⟨1, _⟩ => rfl, ins_q_whole, V_q]
  pointwise

end Cert.KernelIdeal.Body

end
-- ==== Proof.Value.lean ====
module

public import proofs.«01_k».proof.Defs
public import proofs.«01_k».proof.Proof.Equation
public import proofs.«01_k».proof.Proof.KernelIns

@[expose] public section

set_option maxRecDepth 16384

noncomputable section

/-- The shape relations the precondition states. -/
theorem Cert.Pre_equal_segments_of_finite_points.facts : Cert.Pre_equal_segments_of_finite_points.Facts where
  bcast_S_S16 := by decide
  bcast_S_S32768x512 := by decide
  bcast_S_S512x512 := by decide
  bcast_S_S512 := by decide

namespace Cert.KernelIdeal.Body

open Cert.KernelIdeal Cert.KernelIdeal.Gen
open Idealize.ShloMosaic Idealize.ShloMosaic.TcCoe Idealize.ShloMosaic.StableHlo
open Idealize.SL Idealize.SL.RA Idealize.SL.BI Idealize.SL.Sem
open Cert.PointMath

/-- What is less than infinity in magnitude is a real. -/
theorem real_of_abs {s : Shape} (x : FVec Ideal s .f32) (b : FVec Ideal s .f32) (hb : ∀ i, b i = (⊤ : EReal)) (h : cmpf .olt (Host.absf x) b = fun _ => 1#1) (i : s.Idx) :
    ∃ t : ℝ, x i = (t : EReal) := by
  have h1 : (cmpf .olt (Host.absf x) b) i = 1#1 := congrFun h i
  have h2 : BitVec.ofBool (decide ((max (x i) (-(x i)) : EReal) < b i)) = 1#1 := h1
  rw [hb i] at h2
  have h3 : (max (x i) (-(x i)) : EReal) < ⊤ := by
    by_contra hn
    rw [decide_eq_false hn] at h2
    exact absurd h2 (by decide)
  have h4 : x i ≠ (⊤ : EReal) := fun e => by rw [e] at h3; exact absurd h3 (by simp)
  have h5 : x i ≠ (⊥ : EReal) := fun e => by rw [e] at h3; exact absurd h3 (by simp)
  exact ⟨EReal.toReal (x i), (EReal.coe_toReal h4 h5).symm⟩

/-- The segments' ends, from their comparison. -/
theorem ends_of_eq (x y : IVec S16 32) (hy : ∀ i : Fin 16, y (ix1 i) = BitVec.ofNat 32 (2048 * (i.val + 1))) (h : cmpi .eq x y = fun _ => 1#1) (i : Fin 16) :
    x (ix1 i) = BitVec.ofNat 32 (2048 * (i.val + 1)) := by
  have h2 : BitVec.ofBool (x (ix1 i) == y (ix1 i)) = 1#1 := congrFun h (ix1 i)
  rw [← hy]
  by_contra hn
  rw [beq_eq_false_iff_ne.2 hn] at h2
  exact absurd h2 (by decide)

/-- The reference's starting contents. -/
abbrev start (m' : (ℓ : Loc ReferenceIdeal.nD ReferenceIdeal.τ ReferenceIdeal.sig) → Buf (Elt Ideal) ℓ) (c : Dev nD) :
    Valuation ReferenceIdeal.τ ReferenceIdeal.sig (Elt Ideal) := launchContents m' c

attribute [local instance] Cert.Pre_equal_segments_of_finite_points.facts in
/-- The kernel's result is the reference's, from agreeing arguments that satisfy the precondition. -/
theorem result_mem (m : (ℓ : Loc nD τ sig) → Buf (Elt Ideal) ℓ) (m' : (ℓ : Loc ReferenceIdeal.nD ReferenceIdeal.τ ReferenceIdeal.sig) → Buf (Elt Ideal) ℓ)
    (hP : Pre_KernelIdeal_equal_segments_of_finite_points m) (c : Dev nD)
    (hA : m' ((c.tc : Thread ReferenceIdeal.nD ReferenceIdeal.τ).loc ReferenceIdeal.main_arg0) = m ((c.tc : Thread nD τ).loc main_arg0)
      ∧ m' ((c.tc : Thread ReferenceIdeal.nD ReferenceIdeal.τ).loc ReferenceIdeal.main_arg1) = m ((c.tc : Thread nD τ).loc main_arg1)
      ∧ m' ((c.tc : Thread ReferenceIdeal.nD ReferenceIdeal.τ).loc ReferenceIdeal.main_arg2) = m ((c.tc : Thread nD τ).loc main_arg2)
      ∧ m' ((c.tc : Thread ReferenceIdeal.nD ReferenceIdeal.τ).loc ReferenceIdeal.main_arg3) = m ((c.tc : Thread nD τ).loc main_arg3)
      ∧ m' ((c.tc : Thread ReferenceIdeal.nD ReferenceIdeal.τ).loc ReferenceIdeal.main_arg4) = m ((c.tc : Thread nD τ).loc main_arg4)
      ∧ m' ((c.tc : Thread ReferenceIdeal.nD ReferenceIdeal.τ).loc ReferenceIdeal.main_arg5) = m ((c.tc : Thread nD τ).loc main_arg5)
      ∧ m' ((c.tc : Thread ReferenceIdeal.nD ReferenceIdeal.τ).loc ReferenceIdeal.main_arg6) = m ((c.tc : Thread nD τ).loc main_arg6)
      ∧ m' ((c.tc : Thread ReferenceIdeal.nD ReferenceIdeal.τ).loc ReferenceIdeal.main_arg7) = m ((c.tc : Thread nD τ).loc main_arg7)
      ∧ m' ((c.tc : Thread ReferenceIdeal.nD ReferenceIdeal.τ).loc ReferenceIdeal.main_arg8) = m ((c.tc : Thread nD τ).loc main_arg8)
      ∧ m' ((c.tc : Thread ReferenceIdeal.nD ReferenceIdeal.τ).loc ReferenceIdeal.main_arg9) = m ((c.tc : Thread nD τ).loc main_arg9)
      ∧ m' ((c.tc : Thread ReferenceIdeal.nD ReferenceIdeal.τ).loc ReferenceIdeal.main_arg10) = m ((c.tc : Thread nD τ).loc main_arg10)
      ∧ m' ((c.tc : Thread ReferenceIdeal.nD ReferenceIdeal.τ).loc ReferenceIdeal.main_arg11) = m ((c.tc : Thread nD τ).loc main_arg11)
      ∧ m' ((c.tc : Thread ReferenceIdeal.nD ReferenceIdeal.τ).loc ReferenceIdeal.main_arg12) = m ((c.tc : Thread nD τ).loc main_arg12)
      ∧ m' ((c.tc : Thread ReferenceIdeal.nD ReferenceIdeal.τ).loc ReferenceIdeal.main_arg13) = m ((c.tc : Thread nD τ).loc main_arg13)) :
    OUT (ins m c) = (ReferenceIdeal.Value.val3 (start m' c) (Proc.devRef .tc ReferenceIdeal.main_v105) : FVec Ideal S16x64 .f32) := by
  obtain ⟨a0, a1, a2, a3, a4, a5, a6, a7, a8, a9, a10, a11, a12, a13⟩ := hA
  obtain ⟨p0, p1, p2, p3, p4, p5, p6, p7, p8⟩ := hP c
  have q0 : ReferenceIdeal.Value.feat (start m' c) = feat m c := a0
  have q2 : ReferenceIdeal.Value.W1 (start m' c) = W1 m c := a2
  have q4 : ReferenceIdeal.Value.g1 (start m' c) = g1 m c := a4
  have q5 : ReferenceIdeal.Value.e1 (start m' c) = e1 m c := a5
  have q6 : ReferenceIdeal.Value.W2 (start m' c) = W2 m c := a6
  have q8 : ReferenceIdeal.Value.g2 (start m' c) = g2 m c := a8
  have q9 : ReferenceIdeal.Value.e2 (start m' c) = e2 m c := a9
  have q10 : ReferenceIdeal.Value.Wa (start m' c) = Wa m c := a10
  have q11 : ReferenceIdeal.Value.ba (start m' c) = ba m c := a11
  have q12 : ReferenceIdeal.Value.Wo (start m' c) = Wo m c := a12
  have q13 : ReferenceIdeal.Value.bo (start m' c) = bo m c := a13
  choose f hf using fun i k => real_of_abs (feat m c) _ (fun _ => pinf_eq) p1 (ix2 i k)
  choose w1 hw1 using fun i k => real_of_abs (W1 m c) _ (fun _ => pinf_eq) p2 (ix2 i k)
  choose b1 hb1 using fun k => real_of_abs (m ((c.tc : Thread nD τ).loc main_arg3) : FVec Ideal S512 .f32) _ (fun _ => pinf_eq) p3 (ix1 k)
  choose g1' hg1 using fun k => real_of_abs (g1 m c) _ (fun _ => pinf_eq) p4 (ix1 k)
  choose e1' he1 using fun k => real_of_abs (e1 m c) _ (fun _ => pinf_eq) p5 (ix1 k)
  choose w2 hw2 using fun i k => real_of_abs (W2 m c) _ (fun _ => pinf_eq) p6 (ix2 i k)
  choose b2 hb2 using fun k => real_of_abs (m ((c.tc : Thread nD τ).loc main_arg7) : FVec Ideal S512 .f32) _ (fun _ => pinf_eq) p7 (ix1 k)
  choose g2' hg2 using fun k => real_of_abs (g2 m c) _ (fun _ => pinf_eq) p8 (ix1 k)
  have L : Link (ins m c) (start m' c) f w1 w2 b1 g1' e1' b2 g2' :=
    { kx := fun j r k => (ins_x_apply m c j r k).trans (hf _ k)
      kw1 := fun k o => (ins_w1_apply m c k o).trans (hw1 o k)
      kw2 := fun k o => (ins_w2_apply m c k o).trans (hw2 o k)
      kg1 := fun k => (ins_g1_apply m c k).trans (hg1 k)
      ke1 := fun k => (ins_b1_apply m c k).trans (he1 k)
      kg2 := fun k => (ins_g2_apply m c k).trans (hg2 k)
      ke2 := fun k => by rw [ins_b2_apply, q9]
      kq0 := by rw [ins_q0, q10]
      kq1 := by rw [ins_q1, q10]
      kq2 := by rw [ins_q2, q11]
      kwo := fun k o => by rw [ins_wo_apply, q12]
      kbo := fun o => by rw [ins_bo_apply, q13]
      rx := fun i k => by rw [q0]; exact hf i k
      rw1 := fun o k => by rw [q2]; exact hw1 o k
      rw2 := fun o k => by rw [q6]; exact hw2 o k
      rb1 := fun k => (congrFun a3 (ix1 k)).trans (hb1 k)
      rg1 := fun k => by rw [q4]; exact hg1 k
      re1 := fun k => by rw [q5]; exact he1 k
      rb2 := fun k => (congrFun a7 (ix1 k)).trans (hb2 k)
      rg2 := fun k => by rw [q8]; exact hg2 k
      ro := fun x => (congrFun a1 (ix1 x)).trans (ends_of_eq (m ((c.tc : Thread nD τ).loc main_arg1) : IVec S16 32) _ (fun i => by
        show (BitVec.ofNat 32 i.val + 1#32) * 2048#32 = _
        rw [show (1#32 : BitVec 32) = BitVec.ofNat 32 1 from rfl, show (2048#32 : BitVec 32) = BitVec.ofNat 32 2048 from rfl, ← BitVec.ofNat_add, ← BitVec.ofNat_mul, Nat.mul_comm]) p0 x) }
  exact result_eq L

/-- The last point. -/
def t47 : Fin cfg0.N := ⟨47, by rw [show cfg0.N = 48 from N_0]; omega⟩

/-- The one write-back of the result. -/
theorem whole10 : (cfg0.win 10).WholeAt t47 := by decide +kernel

/-- The result array ends with what the last point left. -/
theorem final10 (m : (ℓ : Loc nD τ sig) → Buf (Elt Ideal) ℓ) (c : Dev nD) (G : Vec Ideal S16x64 .f32) (hG : (dats m 0 c).after 10 t47 = G) :
    (dats m 0 c).arrAt 10 cfg0.N = G := by
  refine (dats m 0 c).arrAt_eq_of_after_last 10 t47 whole10 G fun j => ?_
  rw [hG]
  refine congrArg G ?_
  blk_ext [(by decide +kernel : win0_10.index t47 = ![0, 0])]

/-- The kernel's run: the result array ends with `OUT`, the arguments are as they were. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = OUT (ins m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ⟨?_, h.2.1 c⟩) (θ_run_and (run_post m ρ) (frames m ρ))
  exact (h.1.out_eq c 10).trans (final10 m c (OUT (ins m c)) (after10 m c t47))

end Cert.KernelIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m ρ _ => Cert.Kernel.Body.frames (F := Bits) m ρ

/-- The ideal kernel's frame. -/
theorem frame_kernel_ideal : Cert.quiescent_KernelIdeal := fun m ρ _ => Cert.KernelIdeal.Body.frames (F := Ideal) m ρ

/-- The reference's frame: its run leaves the arguments as they were, and it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

attribute [local instance] Cert.Pre_equal_segments_of_finite_points.facts in
/-- The kernel and the reference end with equal results. -/
theorem equal_results : Cert.algebraic_KernelIdeal_ReferenceIdeal_pre_equal_segments_of_finite_points := fun m g m' g' hP hA =>
  ⟨fun c => Cert.KernelIdeal.Body.OUT (Cert.KernelIdeal.Body.ins m c), Cert.KernelIdeal.Body.run_out m g,
    (θ_run Cert.ReferenceIdeal.defs _ _).mono
      (fun r h c => ⟨(h c).1.trans ((Cert.ReferenceIdeal.Value.val3_main_v105 _).symm.trans (Cert.KernelIdeal.Body.result_mem m m' hP c (hA c)).symm), (h c).2⟩)
      (Cert.ReferenceIdeal.Value.run (F := Ideal) m' g')⟩

/-- Everything claimed. -/
theorem claim : Cert.Claim := ⟨Cert.Kernel.Gen.facts, Cert.KernelIdeal.Gen.facts, Cert.ReferenceIdeal.Gen.facts, Cert.Pre_equal_segments_of_finite_points.facts,
  frame_kernel, frame_kernel_ideal, fun m ρ _ => frame_kernel_ideal m ρ trivial, frame_reference, fun m ρ _ => frame_reference m ρ trivial, trivial, equal_results⟩

end Cert.Proof

end
